-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v60_0)) (v1 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60_0) = v0 c
          ∧ r.2.mem ((c.tc : Thread Cert.KernelIdeal.nD Cert.KernelIdeal.τ).loc Cert.KernelIdeal.main_v66) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_v160) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S16x64x4096 : Shape := ⟨3, ![16, 64, 4096]⟩
abbrev S128x64x4 : Shape := ⟨3, ![128, 64, 4]⟩
abbrev S128 : Shape := ⟨1, ![128]⟩
abbrev S64x128x4 : Shape := ⟨3, ![64, 128, 4]⟩
abbrev S64 : Shape := ⟨1, ![64]⟩
abbrev S512x64 : Shape := ⟨2, ![512, 64]⟩
abbrev S_ : Shape := ⟨0, ![]⟩

class Facts : Prop where
  bcast_S_S16x64x4096 : S_.BroadcastsInDim S16x64x4096 (![] : Fin 0 → Fin S16x64x4096.rank)
  bcast_S_S128x64x4 : S_.BroadcastsInDim S128x64x4 (![] : Fin 0 → Fin S128x64x4.rank)
  bcast_S_S128 : S_.BroadcastsInDim S128 (![] : Fin 0 → Fin S128.rank)
  bcast_S_S64x128x4 : S_.BroadcastsInDim S64x128x4 (![] : Fin 0 → Fin S64x128x4.rank)
  bcast_S_S64 : S_.BroadcastsInDim S64 (![] : Fin 0 → Fin S64.rank)
  bcast_S_S512x64 : S_.BroadcastsInDim S512x64 (![] : Fin 0 → Fin S512x64.rank)

variable [Facts]

def fn {F : FTy → Type} [FloatOps F] (main_arg0 : FVec F S16x64x4096 .f32) (main_arg1 : FVec F S128x64x4 .f32) (main_arg2 : FVec F S128 .f32) (main_arg3 : FVec F S64x128x4 .f32) (main_arg4 : FVec F S64 .f32) (main_arg5 : FVec F S512x64 .f32) (main_arg6 : FVec F S64x128x4 .f32) (main_arg7 : FVec F S128 .f32) (main_arg8 : FVec F S128x64x4 .f32) (main_arg9 : FVec F S64 .f32) : IVec S16x64x4096 1 × IVec S128x64x4 1 × IVec S128 1 × IVec S64x128x4 1 × IVec S64 1 × IVec S512x64 1 :=
  let main_v0 : FVec F S16x64x4096 .f32 := Host.absf main_arg0
  let main_cst : FVec F S_ .f32 := constant S_ .f32 0x7F800000#32
  let main_v1 : FVec F S16x64x4096 .f32 := broadcastInDim S16x64x4096 ![] bcast_S_S16x64x4096 main_cst
  let main_v2 : IVec S16x64x4096 1 := cmpf .olt main_v0 main_v1
  let main_v3 : FVec F S128x64x4 .f32 := Host.absf main_arg1
  let main_cst_0 : FVec F S_ .f32 := constant S_ .f32 0x7F800000#32
  let main_v4 : FVec F S128x64x4 .f32 := broadcastInDim S128x64x4 ![] bcast_S_S128x64x4 main_cst_0
  let main_v5 : IVec S128x64x4 1 := cmpf .olt main_v3 main_v4
  let main_v6 : FVec F S128 .f32 := Host.absf main_arg2
  let main_cst_1 : FVec F S_ .f32 := constant S_ .f32 0x7F800000#32
  let main_v7 : FVec F S128 .f32 := broadcastInDim S128 ![] bcast_S_S128 main_cst_1
  let main_v8 : IVec S128 1 := cmpf .olt main_v6 main_v7
  let main_v9 : FVec F S64x128x4 .f32 := Host.absf main_arg3
  let main_cst_2 : FVec F S_ .f32 := constant S_ .f32 0x7F800000#32
  let main_v10 : FVec F S64x128x4 .f32 := broadcastInDim S64x128x4 ![] bcast_S_S64x128x4 main_cst_2
  let main_v11 : IVec S64x128x4 1 := cmpf .olt main_v9 main_v10
  let main_v12 : FVec F S64 .f32 := Host.absf main_arg4
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  let main_v15 : FVec F S512x64 .f32 := Host.absf main_arg5
  let main_cst_4 : FVec F S_ .f32 := constant S_ .f32 0x7F800000#32
  let main_v16 : FVec F S512x64 .f32 := broadcastInDim S512x64 ![] bcast_S_S512x64 main_cst_4
  let main_v17 : IVec S512x64 1 := cmpf .olt main_v15 main_v16
  (main_v2, main_v5, main_v8, main_v11, main_v14, main_v17)
-- ==== Kernel.lean ====
abbrev S16x64x4096 : Shape := ⟨3, ![16, 64, 4096]⟩
abbrev S128x64x4 : Shape := ⟨3, ![128, 64, 4]⟩
abbrev S128 : Shape := ⟨1, ![128]⟩
abbrev S64x128x4 : Shape := ⟨3, ![64, 128, 4]⟩
abbrev S64 : Shape := ⟨1, ![64]⟩
abbrev S512x64 : Shape := ⟨2, ![512, 64]⟩
abbrev S4x64x128 : Shape := ⟨3, ![4, 64, 128]⟩
abbrev S1x64x128 : Shape := ⟨3, ![1, 64, 128]⟩
abbrev S64x128 : Shape := ⟨2, ![64, 128]⟩
abbrev S128x128 : Shape := ⟨2, ![128, 128]⟩
abbrev S1x128x128 : Shape := ⟨3, ![1, 128, 128]⟩
abbrev S2x128x128 : Shape := ⟨3, ![2, 128, 128]⟩
abbrev S4x128x64 : Shape := ⟨3, ![4, 128, 64]⟩
abbrev S1x128x64 : Shape := ⟨3, ![1, 128, 64]⟩
abbrev S128x64 : Shape := ⟨2, ![128, 64]⟩
abbrev S256x64 : Shape := ⟨2, ![256, 64]⟩
abbrev S1x256x64 : Shape := ⟨3, ![1, 256, 64]⟩
abbrev S2x256x64 : Shape := ⟨3, ![2, 256, 64]⟩
abbrev S1x128 : Shape := ⟨2, ![1, 128]⟩
abbrev S1x64 : Shape := ⟨2, ![1, 64]⟩
abbrev S1x1 : Shape := ⟨2, ![1, 1]⟩
abbrev S4x64x4096 : Shape := ⟨3, ![4, 64, 4096]⟩
abbrev S4x4104x64 : Shape := ⟨3, ![4, 4104, 64]⟩
abbrev S4x2056x128 : Shape := ⟨3, ![4, 2056, 128]⟩
abbrev S4x1024x64 : Shape := ⟨3, ![4, 1024, 64]⟩
abbrev S4x1032x64 : Shape := ⟨3, ![4, 1032, 64]⟩
abbrev S4x4096x64 : Shape := ⟨3, ![4, 4096, 64]⟩
abbrev S1x512 : Shape := ⟨2, ![1, 512]⟩
abbrev S1024x512 : Shape := ⟨2, ![1024, 512]⟩
abbrev S1x64x4096 : Shape := ⟨3, ![1, 64, 4096]⟩
abbrev S64x4096 : Shape := ⟨2, ![64, 4096]⟩
abbrev S4096x64 : Shape := ⟨2, ![4096, 64]⟩
abbrev S1x1x64 : Shape := ⟨3, ![1, 1, 64]⟩
abbrev S1x4096x64 : Shape := ⟨3, ![1, 4096, 64]⟩
abbrev S7x64 : Shape := ⟨2, ![7, 64]⟩
abbrev S1x7x64 : Shape := ⟨3, ![1, 7, 64]⟩
abbrev S1x2048x64 : Shape := ⟨3, ![1, 2048, 64]⟩
abbrev S2048x64 : Shape := ⟨2, ![2048, 64]⟩
abbrev S2048x128 : Shape := ⟨2, ![2048, 128]⟩
abbrev S1x1x128 : Shape := ⟨3, ![1, 1, 128]⟩
abbrev S1x2048x128 : Shape := ⟨3, ![1, 2048, 128]⟩
abbrev S7x128 : Shape := ⟨2, ![7, 128]⟩
abbrev S1x7x128 : Shape := ⟨3, ![1, 7, 128]⟩
abbrev S1x1024x128 : Shape := ⟨3, ![1, 1024, 128]⟩
abbrev S1024x128 : Shape := ⟨2, ![1024, 128]⟩
abbrev S1024x256 : Shape := ⟨2, ![1024, 256]⟩
abbrev S1024x64 : Shape := ⟨2, ![1024, 64]⟩
abbrev S64x64 : Shape := ⟨2, ![64, 64]⟩
abbrev S1x64x64 : Shape := ⟨3, ![1, 64, 64]⟩
abbrev S1x1024x64 : Shape := ⟨3, ![1, 1024, 64]⟩
abbrev S1024 : Shape := ⟨1, ![1024]⟩
abbrev S1024x1 : Shape := ⟨2, ![1024, 1]⟩
abbrev S1 : Shape := ⟨1, ![1]⟩
abbrev S1x1x1 : Shape := ⟨3, ![1, 1, 1]⟩
abbrev S2048x256 : Shape := ⟨2, ![2048, 256]⟩
abbrev S_ : Shape := ⟨0, ![]⟩

abbrev nBuf : Space → Nat
  | .hbm => 82
  | .vmem => 22
  | .smem => 0
  | _ => 0

abbrev bufTy : (tb : Table) → Fin (tcTables nBuf tb) → BufTy
  | .hbm, ⟨0, _⟩ => ⟨S16x64x4096, .f32⟩
  | .hbm, ⟨1, _⟩ => ⟨S128x64x4, .f32⟩
  | .hbm, ⟨2, _⟩ => ⟨S128, .f32⟩
  | .hbm, ⟨3, _⟩ => ⟨S64x128x4, .f32⟩
  | .hbm, ⟨4, _⟩ => ⟨S64, .f32⟩
  | .hbm, ⟨5, _⟩ => ⟨S512x64, .f32⟩
  | .hbm, ⟨6, _⟩ => ⟨S64x128x4, .f32⟩
  | .hbm, ⟨7, _⟩ => ⟨S128, .f32⟩
  | .hbm, ⟨8, _⟩ => ⟨S128x64x4, .f32⟩
  | .hbm, ⟨9, _⟩ => ⟨S64, .f32⟩
  | .hbm, ⟨10, _⟩ => ⟨S4x64x128, .f32⟩
  | .hbm, ⟨11, _⟩ => ⟨S1x64x128, .f32⟩
  | .hbm, ⟨12, _⟩ => ⟨S64x128, .f32⟩
  | .hbm, ⟨13, _⟩ => ⟨S1x64x128, .f32⟩
  | .hbm, ⟨14, _⟩ => ⟨S64x128, .f32⟩
  | .hbm, ⟨15, _⟩ => ⟨S128x128, .f32⟩
  | .hbm, ⟨16, _⟩ => ⟨S1x64x128, .f32⟩
  | .hbm, ⟨17, _⟩ => ⟨S64x128, .f32⟩
  | .hbm, ⟨18, _⟩ => ⟨S1x64x128, .f32⟩
  | .hbm, ⟨19, _⟩ => ⟨S64x128, .f32⟩
  | .hbm, ⟨20, _⟩ => ⟨S128x128, .f32⟩
  | .hbm, ⟨21, _⟩ => ⟨S1x128x128, .f32⟩
  | .hbm, ⟨22, _⟩ => ⟨S1x128x128, .f32⟩
  | .hbm, ⟨23, _⟩ => ⟨S2x128x128, .f32⟩
  | .hbm, ⟨24, _⟩ => ⟨S4x128x64, .f32⟩
  | .hbm, ⟨25, _⟩ => ⟨S1x128x64, .f32⟩
  | .hbm, ⟨26, _⟩ => ⟨S128x64, .f32⟩
  | .hbm, ⟨27, _⟩ => ⟨S1x128x64, .f32⟩
  | .hbm, ⟨28, _⟩ => ⟨S128x64, .f32⟩
  | .hbm, ⟨29, _⟩ => ⟨S256x64, .f32⟩
  | .hbm, ⟨30, _⟩ => ⟨S1x128x64, .f32⟩
  | .hbm, ⟨31, _⟩ => ⟨S128x64, .f32⟩
  | .hbm, ⟨32, _⟩ => ⟨S1x128x64, .f32⟩
  | .hbm, ⟨33, _⟩ => ⟨S128x64, .f32⟩
  | .hbm, ⟨34, _⟩ => ⟨S256x64, .f32⟩
  | .hbm, ⟨35, _⟩ => ⟨S1x256x64, .f32⟩
  | .hbm, ⟨36, _⟩ => ⟨S1x256x64, .f32⟩
  | .hbm, ⟨37, _⟩ => ⟨S2x256x64, .f32⟩
  | .hbm, ⟨38, _⟩ => ⟨S4x64x128, .f32⟩
  | .hbm, ⟨39, _⟩ => ⟨S1x64x128, .f32⟩
  | .hbm, ⟨40, _⟩ => ⟨S64x128, .f32⟩
  | .hbm, ⟨41, _⟩ => ⟨S1x64x128, .f32⟩
  | .hbm, ⟨42, _⟩ => ⟨S64x128, .f32⟩
  | .hbm, ⟨43, _⟩ => ⟨S128x128, .f32⟩
  | .hbm, ⟨44, _⟩ => ⟨S1x64x128, .f32⟩
  | .hbm, ⟨45, _⟩ => ⟨S64x128, .f32⟩
  | .hbm, ⟨46, _⟩ => ⟨S1x64x128, .f32⟩
  | .hbm, ⟨47, _⟩ => ⟨S64x128, .f32⟩
  | .hbm, ⟨48, _⟩ => ⟨S128x128, .f32⟩
  | .hbm, ⟨49, _⟩ => ⟨S1x128x128, .f32⟩
  | .hbm, ⟨50, _⟩ => ⟨S1x128x128, .f32⟩
  | .hbm, ⟨51, _⟩ => ⟨S2x128x128, .f32⟩
  | .hbm, ⟨52, _⟩ => ⟨S4x128x64, .f32⟩
  | .hbm, ⟨53, _⟩ => ⟨S1x128x64, .f32⟩
  | .hbm, ⟨54, _⟩ => ⟨S128x64, .f32⟩
  | .hbm, ⟨55, _⟩ => ⟨S1x128x64, .f32⟩
  | .hbm, ⟨56, _⟩ => ⟨S128x64, .f32⟩
  | .hbm, ⟨57, _⟩ => ⟨S256x64, .f32⟩
  | .hbm, ⟨58, _⟩ => ⟨S1x128x64, .f32⟩
  | .hbm, ⟨59, _⟩ => ⟨S128x64, .f32⟩
  | .hbm, ⟨60, _⟩ => ⟨S1x128x64, .f32⟩
  | .hbm, ⟨61, _⟩ => ⟨S128x64, .f32⟩
  | .hbm, ⟨62, _⟩ => ⟨S256x64, .f32⟩
  | .hbm, ⟨63, _⟩ => ⟨S1x256x64, .f32⟩
  | .hbm, ⟨64, _⟩ => ⟨S1x256x64, .f32⟩
  | .hbm, ⟨65, _⟩ => ⟨S2x256x64, .f32⟩
  | .hbm, ⟨66, _⟩ => ⟨S1x128, .f32⟩
  | .hbm, ⟨67, _⟩ => ⟨S1x64, .f32⟩
  | .hbm, ⟨68, _⟩ => ⟨S1x128, .f32⟩
  | .hbm, ⟨69, _⟩ => ⟨S1x64, .f32⟩
  | .hbm, ⟨70, _⟩ => ⟨S16x64x4096, .f32⟩
  | .hbm, ⟨71, _⟩ => ⟨S1x1, .f32⟩
  | .hbm, ⟨72, _⟩ => ⟨S1x1, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .local _ .vmem, ⟨0, _⟩ => ⟨S4x64x4096, .f32⟩
  | .local _ .vmem, ⟨1, _⟩ => ⟨S4x64x4096, .f32⟩
  | .local _ .vmem, ⟨2, _⟩ => ⟨S2x128x128, .f32⟩
  | .local _ .vmem, ⟨3, _⟩ => ⟨S1x128, .f32⟩
  | .local _ .vmem, ⟨4, _⟩ => ⟨S2x256x64, .f32⟩
  | .local _ .vmem, ⟨5, _⟩ => ⟨S1x64, .f32⟩
  | .local _ .vmem, ⟨6, _⟩ => ⟨S512x64, .f32⟩
  | .local _ .vmem, ⟨7, _⟩ => ⟨S2x128x128, .f32⟩
  | .local _ .vmem, ⟨8, _⟩ => ⟨S1x128, .f32⟩
  | .local _ .vmem, ⟨9, _⟩ => ⟨S2x256x64, .f32⟩
  | .local _ .vmem, ⟨10, _⟩ => ⟨S1x64, .f32⟩
  | .local _ .vmem, ⟨11, _⟩ => ⟨S4x64x4096, .f32⟩
  | .local _ .vmem, ⟨12, _⟩ => ⟨S4x64x4096, .f32⟩
  | .local _ .vmem, ⟨13, _⟩ => ⟨S1x1, .f32⟩
  | .local _ .vmem, ⟨14, _⟩ => ⟨S1x1, .f32⟩
  | .local _ .vmem, ⟨15, _⟩ => ⟨S4x4104x64, .f32⟩
  | .local _ .vmem, ⟨16, _⟩ => ⟨S4x2056x128, .f32⟩
  | .local _ .vmem, ⟨17, _⟩ => ⟨S4x1024x64, .f32⟩
  | .local _ .vmem, ⟨18, _⟩ => ⟨S4x1024x64, .f32⟩
  | .local _ .vmem, ⟨19, _⟩ => ⟨S4x1032x64, .f32⟩
  | .local _ .vmem, ⟨20, _⟩ => ⟨S4x2056x128, .f32⟩
  | .local _ .vmem, ⟨21, _⟩ => ⟨S4x4096x64, .f32⟩
  | _, _ => ⟨S16x64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60_0 : Ref sig .tc := ⟨.hbm, 70, rfl⟩
abbrev main_v60_1 : Ref sig .tc := ⟨.hbm, 71, rfl⟩
abbrev main_v60_2 : Ref sig .tc := ⟨.hbm, 72, rfl⟩
abbrev main_v61 : Ref sig .tc := ⟨.hbm, 73, rfl⟩
abbrev main_cst : Ref sig .tc := ⟨.hbm, 74, rfl⟩
abbrev main_v62 : Ref sig .tc := ⟨.hbm, 75, rfl⟩
abbrev main_v63 : Ref sig .tc := ⟨.hbm, 76, rfl⟩
abbrev main_cst_0 : Ref sig .tc := ⟨.hbm, 77, rfl⟩
abbrev main_v64 : Ref sig .tc := ⟨.hbm, 78, rfl⟩
abbrev main_cst_1 : Ref sig .tc := ⟨.hbm, 79, rfl⟩
abbrev main_v65 : Ref sig .tc := ⟨.hbm, 80, rfl⟩
abbrev main_v66 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg12_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem12_0 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x256x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4x64x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S16x64x4096 : Shape := ⟨3, ![16, 64, 4096]⟩
abbrev S128x64x4 : Shape := ⟨3, ![128, 64, 4]⟩
abbrev S128 : Shape := ⟨1, ![128]⟩
abbrev S64x128x4 : Shape := ⟨3, ![64, 128, 4]⟩
abbrev S64 : Shape := ⟨1, ![64]⟩
abbrev S512x64 : Shape := ⟨2, ![512, 64]⟩
abbrev S_ : Shape := ⟨0, ![]⟩
abbrev S16x64x4098 : Shape := ⟨3, ![16, 64, 4098]⟩
abbrev S128x64x1 : Shape := ⟨3, ![128, 64, 1]⟩
abbrev S128x64 : Shape := ⟨2, ![128, 64]⟩
abbrev S16x64x2048 : Shape := ⟨3, ![16, 64, 2048]⟩
abbrev S16x2048x128 : Shape := ⟨3, ![16, 2048, 128]⟩
abbrev S16x128x2048 : Shape := ⟨3, ![16, 128, 2048]⟩
abbrev S1x128x1 : Shape := ⟨3, ![1, 128, 1]⟩
abbrev S16x128x2050 : Shape := ⟨3, ![16, 128, 2050]⟩
abbrev S64x128x1 : Shape := ⟨3, ![64, 128, 1]⟩
abbrev S64x128 : Shape := ⟨2, ![64, 128]⟩
abbrev S16x128x1024 : Shape := ⟨3, ![16, 128, 1024]⟩
abbrev S16x1024x64 : Shape := ⟨3, ![16, 1024, 64]⟩
abbrev S16x64x1024 : Shape := ⟨3, ![16, 64, 1024]⟩
abbrev S1x64x1 : Shape := ⟨3, ![1, 64, 1]⟩
abbrev S16384x64 : Shape := ⟨2, ![16384, 64]⟩
abbrev S16384 : Shape := ⟨1, ![16384]⟩
abbrev S16384x1 : Shape := ⟨2, ![16384, 1]⟩
abbrev S64x512 : Shape := ⟨2, ![64, 512]⟩
abbrev S16384x512 : Shape := ⟨2, ![16384, 512]⟩
abbrev S512 : Shape := ⟨1, ![512]⟩
abbrev S1x512 : Shape := ⟨2, ![1, 512]⟩
abbrev S1 : Shape := ⟨1, ![1]⟩
abbrev S1x1 : Shape := ⟨2, ![1, 1]⟩
abbrev S16x64x2051 : Shape := ⟨3, ![16, 64, 2051]⟩
abbrev S16x128x4099 : Shape := ⟨3, ![16, 128, 4099]⟩
abbrev S16x128x4096 : Shape := ⟨3, ![16, 128, 4096]⟩
abbrev S16x4096x64 : Shape := ⟨3, ![16, 4096, 64]⟩

abbrev nBuf : Space → Nat
  | .hbm => 224
  | .vmem => 0
  | .smem => 0
  | _ => 0

abbrev hbmTy0_0 (i : Nat) : BufTy := match i % 128 with
  | 0 => ⟨S16x64x4096, .f32⟩
  | 1 => ⟨S128x64x4, .f32⟩
  | 2 => ⟨S128, .f32⟩
  | 3 => ⟨S64x128x4, .f32⟩
  | 4 => ⟨S64, .f32⟩
  | 5 => ⟨S512x64, .f32⟩
  | 6 => ⟨S64x128x4, .f32⟩
  | 7 => ⟨S128, .f32⟩
  | 8 => ⟨S128x64x4, .f32⟩
  | 9 => ⟨S64, .f32⟩
  | 10 => ⟨S_, .i32⟩
  | 11 => ⟨S_, .f32⟩
  | 12 => ⟨S16x64x4098, .f32⟩
  | 13 => ⟨S128x64x1, .f32⟩
  | 14 => ⟨S128x64, .f32⟩
  | 15 => ⟨S16x64x2048, .f32⟩
  | 16 => ⟨S16x2048x128, .f32⟩
  | 17 => ⟨S16x128x2048, .f32⟩
  | 18 => ⟨S_, .f32⟩
  | 19 => ⟨S16x128x2048, .f32⟩
  | 20 => ⟨S16x128x2048, .f32⟩
  | 21 => ⟨S128x64x1, .f32⟩
  | 22 => ⟨S128x64, .f32⟩
  | 23 => ⟨S16x64x2048, .f32⟩
  | 24 => ⟨S16x2048x128, .f32⟩
  | 25 => ⟨S16x128x2048, .f32⟩
  | 26 => ⟨S16x128x2048, .f32⟩
  | 27 => ⟨S128x64x1, .f32⟩
  | 28 => ⟨S128x64, .f32⟩
  | 29 => ⟨S16x64x2048, .f32⟩
  | 30 => ⟨S16x2048x128, .f32⟩
  | 31 => ⟨S16x128x2048, .f32⟩
  | 32 => ⟨S16x128x2048, .f32⟩
  | 33 => ⟨S128x64x1, .f32⟩
  | 34 => ⟨S128x64, .f32⟩
  | 35 => ⟨S16x64x2048, .f32⟩
  | 36 => ⟨S16x2048x128, .f32⟩
  | 37 => ⟨S16x128x2048, .f32⟩
  | 38 => ⟨S16x128x2048, .f32⟩
  | 39 => ⟨S1x128x1, .f32⟩
  | 40 => ⟨S16x128x2048, .f32⟩
  | 41 => ⟨S16x128x2048, .f32⟩
  | 42 => ⟨S_, .f32⟩
  | 43 => ⟨S16x128x2048, .f32⟩
  | 44 => ⟨S16x128x2048, .f32⟩
  | 45 => ⟨S_, .i32⟩
  | 46 => ⟨S_, .f32⟩
  | 47 => ⟨S16x128x2050, .f32⟩
  | 48 => ⟨S64x128x1, .f32⟩
  | 49 => ⟨S64x128, .f32⟩
  | 50 => ⟨S16x128x1024, .f32⟩
  | 51 => ⟨S16x1024x64, .f32⟩
  | 52 => ⟨S16x64x1024, .f32⟩
  | 53 => ⟨S_, .f32⟩
  | 54 => ⟨S16x64x1024, .f32⟩
  | 55 => ⟨S16x64x1024, .f32⟩
  | 56 => ⟨S64x128x1, .f32⟩
  | 57 => ⟨S64x128, .f32⟩
  | 58 => ⟨S16x128x1024, .f32⟩
  | 59 => ⟨S16x1024x64, .f32⟩
  | 60 => ⟨S16x64x1024, .f32⟩
  | 61 => ⟨S16x64x1024, .f32⟩
  | 62 => ⟨S64x128x1, .f32⟩
  | 63 => ⟨S64x128, .f32⟩
  | 64 => ⟨S16x128x1024, .f32⟩
  | 65 => ⟨S16x1024x64, .f32⟩
  | 66 => ⟨S16x64x1024, .f32⟩
  | 67 => ⟨S16x64x1024, .f32⟩
  | 68 => ⟨S64x128x1, .f32⟩
  | 69 => ⟨S64x128, .f32⟩
  | 70 => ⟨S16x128x1024, .f32⟩
  | 71 => ⟨S16x1024x64, .f32⟩
  | 72 => ⟨S16x64x1024, .f32⟩
  | 73 => ⟨S16x64x1024, .f32⟩
  | 74 => ⟨S1x64x1, .f32⟩
  | 75 => ⟨S16x64x1024, .f32⟩
  | 76 => ⟨S16x64x1024, .f32⟩
  | 77 => ⟨S_, .f32⟩
  | 78 => ⟨S16x64x1024, .f32⟩
  | 79 => ⟨S16x64x1024, .f32⟩
  | 80 => ⟨S16384x64, .f32⟩
  | 81 => ⟨S16384x64, .f32⟩
  | 82 => ⟨S_, .f32⟩
  | 83 => ⟨S16384, .f32⟩
  | 84 => ⟨S16384x1, .f32⟩
  | 85 => ⟨S_, .f32⟩
  | 86 => ⟨S16384x64, .f32⟩
  | 87 => ⟨S16384x64, .f32⟩
  | 88 => ⟨S64x512, .f32⟩
  | 89 => ⟨S16384x512, .f32⟩
  | 90 => ⟨S16384x512, .f32⟩
  | 91 => ⟨S16384x512, .f32⟩
  | 92 => ⟨S512x64, .f32⟩
  | 93 => ⟨S_, .f32⟩
  | 94 => ⟨S512, .f32⟩
  | 95 => ⟨S1x512, .f32⟩
  | 96 => ⟨S16384x512, .f32⟩
  | 97 => ⟨S16384x512, .f32⟩
  | 98 => ⟨S_, .f32⟩
  | 99 => ⟨S16384x512, .f32⟩
  | 100 => ⟨S16384x512, .f32⟩
  | 101 => ⟨S16384x512, .f32⟩
  | 102 => ⟨S16384x512, .i32⟩
  | 103 => ⟨S_, .f32⟩
  | 104 => ⟨S_, .i32⟩
  | 105 => ⟨S16384, .f32⟩
  | 106 => ⟨S16384, .i32⟩
  | 107 => ⟨S_, .i32⟩
  | 108 => ⟨S16384, .i32⟩
  | 109 => ⟨S16384, .i1⟩
  | 110 => ⟨S_, .i32⟩
  | 111 => ⟨S16384, .i32⟩
  | 112 => ⟨S16384, .i32⟩
  | 113 => ⟨S16384, .i32⟩
  | 114 => ⟨S16384x1, .i32⟩
  | 115 => ⟨S1, .i32⟩
  | 116 => ⟨S_, .i32⟩
  | 117 => ⟨S16384x1, .i32⟩
  | 118 => ⟨S16384x1, .i1⟩
  | 119 => ⟨S1x1, .i32⟩
  | 120 => ⟨S16384x1, .i32⟩
  | 121 => ⟨S16384x1, .i1⟩
  | 122 => ⟨S16384x1, .i1⟩
  | 123 => ⟨S_, .i1⟩
  | 124 => ⟨S16384, .i1⟩
  | 125 => ⟨S16384x64, .f32⟩
  | 126 => ⟨S16384x64, .i1⟩
  | 127 => ⟨S_, .f32⟩
  | _ => ⟨S16x64x4096, .f32⟩

abbrev hbmTy0_1 (i : Nat) : BufTy := match i % 128 with
  | 0 => ⟨S16384x64, .f32⟩
  | 1 => ⟨S16384x64, .f32⟩
  | 2 => ⟨S16x64x1024, .f32⟩
  | 3 => ⟨S16x64x1024, .f32⟩
  | 4 => ⟨S16x64x1024, .f32⟩
  | 5 => ⟨S_, .f32⟩
  | 6 => ⟨S_, .f32⟩
  | 7 => ⟨S_, .f32⟩
  | 8 => ⟨S_, .f32⟩
  | 9 => ⟨S16x64x1024, .f32⟩
  | 10 => ⟨S16x64x1024, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S16x64x1024, .f32⟩
  | 19 => ⟨S16x64x1024, .f32⟩
  | 20 => ⟨S64x128x4, .f32⟩
  | 21 => ⟨S128x64x4, .f32⟩
  | 22 => ⟨S_, .f32⟩
  | 23 => ⟨S16x64x2051, .f32⟩
  | 24 => ⟨S128x64x1, .f32⟩
  | 25 => ⟨S128x64, .f32⟩
  | 26 => ⟨S16x64x2048, .f32⟩
  | 27 => ⟨S16x2048x128, .f32⟩
  | 28 => ⟨S16x128x2048, .f32⟩
  | 29 => ⟨S_, .f32⟩
  | 30 => ⟨S16x128x2048, .f32⟩
  | 31 => ⟨S16x128x2048, .f32⟩
  | 32 => ⟨S128x64x1, .f32⟩
  | 33 => ⟨S128x64, .f32⟩
  | 34 => ⟨S16x64x2048, .f32⟩
  | 35 => ⟨S16x2048x128, .f32⟩
  | 36 => ⟨S16x128x2048, .f32⟩
  | 37 => ⟨S16x128x2048, .f32⟩
  | 38 => ⟨S128x64x1, .f32⟩
  | 39 => ⟨S128x64, .f32⟩
  | 40 => ⟨S16x64x2048, .f32⟩
  | 41 => ⟨S16x2048x128, .f32⟩
  | 42 => ⟨S16x128x2048, .f32⟩
  | 43 => ⟨S16x128x2048, .f32⟩
  | 44 => ⟨S128x64x1, .f32⟩
  | 45 => ⟨S128x64, .f32⟩
  | 46 => ⟨S16x64x2048, .f32⟩
  | 47 => ⟨S16x2048x128, .f32⟩
  | 48 => ⟨S16x128x2048, .f32⟩
  | 49 => ⟨S16x128x2048, .f32⟩
  | 50 => ⟨S1x128x1, .f32⟩
  | 51 => ⟨S16x128x2048, .f32⟩
  | 52 => ⟨S16x128x2048, .f32⟩
  | 53 => ⟨S_, .f32⟩
  | 54 => ⟨S16x128x2048, .f32⟩
  | 55 => ⟨S16x128x2048, .f32⟩
  | 56 => ⟨S128x64x4, .f32⟩
  | 57 => ⟨S64x128x4, .f32⟩
  | 58 => ⟨S_, .f32⟩
  | 59 => ⟨S16x128x4099, .f32⟩
  | 60 => ⟨S64x128x1, .f32⟩
  | 61 => ⟨S64x128, .f32⟩
  | 62 => ⟨S16x128x4096, .f32⟩
  | 63 => ⟨S16x4096x64, .f32⟩
  | 64 => ⟨S16x64x4096, .f32⟩
  | 65 => ⟨S_, .f32⟩
  | 66 => ⟨S16x64x4096, .f32⟩
  | 67 => ⟨S16x64x4096, .f32⟩
  | 68 => ⟨S64x128x1, .f32⟩
  | 69 => ⟨S64x128, .f32⟩
  | 70 => ⟨S16x128x4096, .f32⟩
  | 71 => ⟨S16x4096x64, .f32⟩
  | 72 => ⟨S16x64x4096, .f32⟩
  | 73 => ⟨S16x64x4096, .f32⟩
  | 74 => ⟨S64x128x1, .f32⟩
  | 75 => ⟨S64x128, .f32⟩
  | 76 => ⟨S16x128x4096, .f32⟩
  | 77 => ⟨S16x4096x64, .f32⟩
  | 78 => ⟨S16x64x4096, .f32⟩
  | 79 => ⟨S16x64x4096, .f32⟩
  | 80 => ⟨S64x128x1, .f32⟩
  | 81 => ⟨S64x128, .f32⟩
  | 82 => ⟨S16x128x4096, .f32⟩
  | 83 => ⟨S16x4096x64, .f32⟩
  | 84 => ⟨S16x64x4096, .f32⟩
  | 85 => ⟨S16x64x4096, .f32⟩
  | 86 => ⟨S1x64x1, .f32⟩
  | 87 => ⟨S16x64x4096, .f32⟩
  | 88 => ⟨S16x64x4096, .f32⟩
  | 89 => ⟨S16x64x4096, .f32⟩
  | 90 => ⟨S16x64x4096, .f32⟩
  | 91 => ⟨S_, .f32⟩
  | 92 => ⟨S_, .f32⟩
  | 93 => ⟨S_, .f32⟩
  | 94 => ⟨S_, .f32⟩
  | 95 => ⟨S_, .f32⟩
  | _ => ⟨S16x64x4096, .f32⟩

abbrev hbmTy (i : Nat) : BufTy := match i / 128 with
  | 0 => hbmTy0_0 i
  | 1 => hbmTy0_1 i
  | _ => ⟨S16x64x4096, .f32⟩

abbrev bufTy : (tb : Table) → Fin (tcTables nBuf tb) → BufTy
  | .hbm, ⟨i, _⟩ => hbmTy i
  | _, _ => ⟨S16x64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_call1_cst : Ref sig .tc := ⟨.hbm, 42, rfl⟩
abbrev main_call1_v0 : Ref sig .tc := ⟨.hbm, 43, rfl⟩
abbrev main_v29 : Ref sig .tc := ⟨.hbm, 44, rfl⟩
abbrev main_c_0 : Ref sig .tc := ⟨.hbm, 45, rfl⟩
abbrev main_call2_v0 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_1 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_call3_cst : Ref sig .tc := ⟨.hbm, 77, rfl⟩
abbrev main_call3_v0 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_2 : Ref sig .tc := ⟨.hbm, 82, rfl⟩
abbrev main_v62 : Ref sig .tc := ⟨.hbm, 83, rfl⟩
abbrev main_v63 : Ref sig .tc := ⟨.hbm, 84, rfl⟩
abbrev main_cst_3 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_4 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_5 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_call4_v0 : Ref sig .tc := ⟨.hbm, 102, rfl⟩
abbrev main_call4_cst : Ref sig .tc := ⟨.hbm, 103, rfl⟩
abbrev main_call4_c : Ref sig .tc := ⟨.hbm, 104, rfl⟩
abbrev main_call4_v1_0 : Ref sig .tc := ⟨.hbm, 105, rfl⟩
abbrev main_v78 : Ref sig .tc := ⟨.hbm, 106, rfl⟩
abbrev main_call5_c : Ref sig .tc := ⟨.hbm, 107, rfl⟩
abbrev main_call5_v0 : Ref sig .tc := ⟨.hbm, 108, rfl⟩
abbrev main_call5_v1 : Ref sig .tc := ⟨.hbm, 109, rfl⟩
abbrev main_call5_c_0 : Ref sig .tc := ⟨.hbm, 110, rfl⟩
abbrev main_call5_v2 : Ref sig .tc := ⟨.hbm, 111, rfl⟩
abbrev main_call5_v3 : Ref sig .tc := ⟨.hbm, 112, rfl⟩
abbrev main_call5_v4 : Ref sig .tc := ⟨.hbm, 113, rfl⟩
abbrev main_call5_v5 : Ref sig .tc := ⟨.hbm, 114, rfl⟩
abbrev main_call5_c_1 : Ref sig .tc := ⟨.hbm, 115, rfl⟩
abbrev main_call5_c_2 : Ref sig .tc := ⟨.hbm, 116, rfl⟩
abbrev main_call5_v6 : Ref sig .tc := ⟨.hbm, 117, rfl⟩
abbrev main_call5_v7 : Ref sig .tc := ⟨.hbm, 118, rfl⟩
abbrev main_call5_v8 : Ref sig .tc := ⟨.hbm, 119, rfl⟩
abbrev main_call5_v9 : Ref sig .tc := ⟨.hbm, 120, rfl⟩
abbrev main_call5_v10 : Ref sig .tc := ⟨.hbm, 121, rfl⟩
abbrev main_call5_v11 : Ref sig .tc := ⟨.hbm, 122, rfl⟩
abbrev main_call5_c_3 : Ref sig .tc := ⟨.hbm, 123, rfl⟩
abbrev main_call5_v12 : Ref sig .tc := ⟨.hbm, 124, rfl⟩
abbrev main_call5_v13 : Ref sig .tc := ⟨.hbm, 125, rfl⟩
abbrev main_call5_v14 : Ref sig .tc := ⟨.hbm, 126, rfl⟩
abbrev main_call5_cst : Ref sig .tc := ⟨.hbm, 127, rfl⟩
abbrev main_call5_v15 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_cst_6 : Ref sig .tc := ⟨.hbm, 133, rfl⟩
abbrev main_v83 : Ref sig .tc := ⟨.hbm, 134, rfl⟩
abbrev main_cst_7 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_cst_8 : Ref sig .tc := ⟨.hbm, 139, rfl⟩
abbrev main_v87 : Ref sig .tc := ⟨.hbm, 140, rfl⟩
abbrev main_cst_9 : Ref sig .tc := ⟨.hbm, 141, rfl⟩
abbrev main_v88 : Ref sig .tc := ⟨.hbm, 142, rfl⟩
abbrev main_cst_10 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_cst_11 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_cst_12 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_call7_cst : Ref sig .tc := ⟨.hbm, 181, rfl⟩
abbrev main_call7_v0 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_cst_13 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_cst_14 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_cst_15 : Ref sig .tc := ⟨.hbm, 219, rfl⟩
abbrev main_v158 : Ref sig .tc := ⟨.hbm, 220, rfl⟩
abbrev main_cst_16 : Ref sig .tc := ⟨.hbm, 221, rfl⟩
abbrev main_v159 : Ref sig .tc := ⟨.hbm, 222, rfl⟩
abbrev main_v160 : Ref sig .tc := ⟨.hbm, 223, rfl⟩

abbrev nD : Nat := 1
abbrev τ : Topo := Topo.v7x

variable {F : FTy → Type} [FloatOps F]
-- ==== Proof.Batch.lean ====
/-
  The kernel's body on one of its four batches, as a function of the batch's number: the pieces it stores into each
  scratch buffer, over what earlier batches stored there, and the boxes it loads back.
-/
module

public import proofs.«01_k».proof.Proof.Gen.KernelIdeal.Skeleton
public import Idealize.ShloMosaic.Lib.Pipeline.FrameBody
public import Idealize.ShloMosaic.Lib.Pointwise

@[expose] public section

set_option maxRecDepth 16384

noncomputable section

namespace Cert.Proof.Batch

open Cert.KernelIdeal Cert.KernelIdeal.Gen
open Idealize.ShloMosaic Idealize.ShloMosaic.TcCoe Idealize.SL.Sem

/-- The stores made into a buffer of shape `s`, the newest first. -/
abbrev Pieces (s : Shape) : Type := List (View.Piece (Elt Ideal) s .f32)

/-- The seven scratch buffers, and the weights, biases and codebook as the body loads them. -/
structure Env where
  mx : Memref sig .tc .vmem S4x4104x64 .f32
  mh : Memref sig .tc .vmem S4x2056x128 .f32
  mf : Memref sig .tc .vmem S4x1024x64 .f32
  mq : Memref sig .tc .vmem S4x1024x64 .f32
  mp : Memref sig .tc .vmem S4x1032x64 .f32
  mg : Memref sig .tc .vmem S4x2056x128 .f32
  mo : Memref sig .tc .vmem S4x4096x64 .f32
  w1 : Vec Ideal S2x128x128 .f32
  b1 : Vec Ideal S1x128 .f32
  w2 : Vec Ideal S2x256x64 .f32
  b2 : Vec Ideal S1x64 .f32
  cb : Vec Ideal S512x64 .f32
  w3 : Vec Ideal S2x128x128 .f32
  b3 : Vec Ideal S1x128 .f32
  w4 : Vec Ideal S2x256x64 .f32
  b4 : Vec Ideal S1x64 .f32

/-- A proof that a box lies in its buffer, decided axis by axis. -/
theorem inb3 {a b c : ℕ} {o1 o2 o3 s1 s2 s3 d1 d2 d3 : ℕ}
    (h1 : s1 = 0 ∨ o1 + d1 * (s1 - 1) < a) (h2 : s2 = 0 ∨ o2 + d2 * (s2 - 1) < b) (h3 : s3 = 0 ∨ o3 + d3 * (s3 - 1) < c) :
    ∀ i : Fin 3, (![s1, s2, s3] : Fin 3 → ℕ) i = 0 ∨ (![o1, o2, o3] : Fin 3 → ℕ) i + (![d1, d2, d3] : Fin 3 → ℕ) i * ((![s1, s2, s3] : Fin 3 → ℕ) i - 1) < (![a, b, c] : Fin 3 → ℕ) i := by
  intro i
  match i with
  | 0 => exact h1
  | 1 => exact h2
  | 2 => exact h3

/-- The box of `n` rows and `m` lanes of batch `b`, from row `o` in steps of `d`, in a buffer of four batches of `r`
    rows. -/
abbrev box {r m : ℕ} (n b o d : ℕ) (hb : b < 4) (hd : 0 < d) (ho : n = 0 ∨ o + d * (n - 1) < r) : Rect ⟨3, ![4, r, m]⟩ where
  off := ![b, o, 0]
  size := ![1, n, m]
  stride := ![1, d, 1]
  inb := inb3 (.inr (by omega)) ho (by omega)
  stride_pos := by
    intro i
    match i with
    | 0 => exact Nat.one_pos
    | 1 => exact hd
    | 2 => exact Nat.one_pos

/-- The box of `n` consecutive rows and `m` lanes of batch `b`, from row `o`. -/
abbrev ubox {r m : ℕ} (n b o : ℕ) (hb : b < 4) (ho : o + n ≤ r) : Rect ⟨3, ![4, r, m]⟩ :=
  Rect.unit ![b, o, 0] ![1, n, m] fun i => match i with
    | 0 => (by show b + 1 ≤ 4; omega)
    | 1 => ho
    | 2 => (by show 0 + m ≤ m; omega)

/-- Rows `64 s` to `64 s + 63` are rows of the latent. -/
theorem cut_slices (s : ℕ) (hs : s < 16) : S1024x64.Slices ![64 * s, 0] S64x64 :=
  ⟨rfl, fun i => match i with
    | 0 => (by show 64 * s + 64 ≤ 1024; omega)
    | 1 => (by show 0 + 64 ≤ 64; omega)⟩

/-- Rows `64 s` to `64 s + 63` of a latent, transposed. -/
def cut (l : FVec Ideal S1024x64 .f32) (s : ℕ) (hs : s < 16) : Vec Ideal S1x64x64 .f32 :=
  shapeCast S1x64x64 (transpose S64x64 [1, 0] (extractStridedSlice S64x64 ![64 * s, 0] l (cut_slices s hs))
    transposes_S64x64_p1_0_S64x64) shapeCasts_S64x64_S1x64x64

section

variable (e : Env) (b : ℕ) (hb : b < 4)

/-- The batch's input `z`, transposed, between a zero row and seven zero rows, stored over `L`. -/
def xs (z : Vec Ideal S1x64x4096 .f32) (L : Pieces S4x4104x64) : Pieces S4x4104x64 :=
  ⟨ubox 7 b 4097 hb (by omega), k0_pay22 (F := Ideal)⟩ ::
    ⟨ubox 4096 b 1 hb (by omega), k0_pay21 (k0_pay18 z)⟩ ::
      ⟨ubox 1 b 0 hb (by omega), k0_pay20 (F := Ideal) k0_pay19⟩ :: L

/-- The rows of the stored input that tap `k` of the first convolution meets. -/
def ldx (LX : Pieces S4x4104x64) (k : ℕ) (hk : k < 4) : Vec Ideal S1x2048x64 .f32 :=
  e.mx.view.readCov LX (box 2048 b k 2 hb (by omega) (by omega)).toLoadRect

/-- The first convolution of the batch. -/
def hid (LX : Pieces S4x4104x64) : FVec Ideal S2048x128 .f32 :=
  k0_pay23 e.w1 e.b1 (ldx e b hb LX 0 (by omega)) (ldx e b hb LX 1 (by omega)) (ldx e b hb LX 2 (by omega)) (ldx e b hb LX 3 (by omega))

/-- The first convolution between a zero row and seven zero rows, stored over `L`. -/
def hs (LX : Pieces S4x4104x64) (L : Pieces S4x2056x128) : Pieces S4x2056x128 :=
  ⟨ubox 7 b 2049 hb (by omega), k0_pay27 (F := Ideal)⟩ ::
    ⟨ubox 2048 b 1 hb (by omega), k0_pay26 (hid e b hb LX)⟩ ::
      ⟨ubox 1 b 0 hb (by omega), k0_pay25 (F := Ideal) k0_pay24⟩ :: L

/-- The rows of the first convolution that tap `k` of the second meets. -/
def ldh (LH : Pieces S4x2056x128) (k : ℕ) (hk : k < 4) : Vec Ideal S1x1024x128 .f32 :=
  e.mh.view.readCov LH (box 1024 b k 2 hb (by omega) (by omega)).toLoadRect

/-- The second convolution of the batch. -/
def lat (LH : Pieces S4x2056x128) : FVec Ideal S1024x64 .f32 :=
  k0_pay28 e.w2 e.b2 (ldh e b hb LH 0 (by omega)) (ldh e b hb LH 1 (by omega)) (ldh e b hb LH 2 (by omega)) (ldh e b hb LH 3 (by omega))

/-- Sixteen stores, the `s`-th of the rows `s`, `s + 16`, … of the batch. -/
def lanes (p : (s : ℕ) → s < 16 → Vec Ideal S1x64x64 .f32) (L : Pieces S4x1024x64) : (n : ℕ) → n ≤ 16 → Pieces S4x1024x64
  | 0, _ => L
  | n + 1, hn => ⟨box 64 b n 16 hb (by omega) (by omega), p n (by omega)⟩ :: lanes p L n (by omega)

/-- Sixteen blocks of 64 rows stored from row 1 on. -/
def blocks (p : (s : ℕ) → s < 16 → Vec Ideal S1x64x64 .f32) (L : Pieces S4x1032x64) : (n : ℕ) → n ≤ 16 → Pieces S4x1032x64
  | 0, _ => L
  | n + 1, hn => ⟨ubox 64 b (64 * n + 1) hb (by omega), p n (by omega)⟩ :: blocks p L n (by omega)

/-- The latent laid out as rows of 64, stored over `L`. -/
def fs (LH : Pieces S4x2056x128) (L : Pieces S4x1024x64) : Pieces S4x1024x64 :=
  lanes b hb (cut (lat e b hb LH)) L 16 (le_refl _)

/-- The rows as the quantiser loads them. -/
def ldf (LF : Pieces S4x1024x64) : Vec Ideal S1x1024x64 .f32 :=
  e.mf.view.readCov LF (ubox 1024 b 0 hb (by omega)).toLoadRect

/-- The quantised rows, stored over `L`. -/
def qs (LF L : Pieces S4x1024x64) : Pieces S4x1024x64 :=
  ⟨ubox 1024 b 0 hb (by omega), k0_pay49 e.cb (k0_pay15 e.cb) (iota .tc S1024x512 32 [1] iota_S1024x512_d1_w32) (ldf e b hb LF)⟩ :: L

/-- The squared errors of the quantised rows. -/
def qerr (LF : Pieces S4x1024x64) : FVec Ideal S1x1024x64 .f32 :=
  k0_pay50 e.cb (k0_pay15 e.cb) (iota .tc S1024x512 32 [1] iota_S1024x512_d1_w32) (ldf e b hb LF)

/-- The quantised rows `s`, `s + 16`, …, transposed. -/
def ldq (LQ : Pieces S4x1024x64) (s : ℕ) (hs : s < 16) : Vec Ideal S1x64x64 .f32 :=
  k0_pay53 (e.mq.view.readCov LQ (box 64 b s 16 hb (by omega) (by omega)).toLoadRect)

/-- The quantised sequence between a zero row and seven zero rows, stored over `L`. -/
def ps (LQ : Pieces S4x1024x64) (L : Pieces S4x1032x64) : Pieces S4x1032x64 :=
  ⟨ubox 7 b 1025 hb (by omega), k0_pay71 (F := Ideal)⟩ ::
    blocks b hb (ldq e b hb LQ) (⟨ubox 1 b 0 hb (by omega), k0_pay52 (F := Ideal)⟩ :: L) 16 (le_refl _)

/-- The quantised sequence from row `k` on. -/
def ldp (LP : Pieces S4x1032x64) (k : ℕ) (hk : k < 3) : Vec Ideal S1x1024x64 .f32 :=
  e.mp.view.readCov LP (ubox 1024 b k hb (by omega)).toLoadRect

/-- The first transposed convolution, its even and odd steps interleaved, between a zero row and seven zero rows,
    stored over `L`. -/
def gs (LP : Pieces S4x1032x64) (L : Pieces S4x2056x128) : Pieces S4x2056x128 :=
  ⟨ubox 7 b 2049 hb (by omega), k0_pay77 (F := Ideal) k0_pay76⟩ ::
    ⟨box 1024 b 2 2 hb (by omega) (by omega), k0_pay75 e.w3 e.b3 (ldp e b hb LP 2 (by omega)) (ldp e b hb LP 1 (by omega))⟩ ::
      ⟨box 1024 b 1 2 hb (by omega) (by omega), k0_pay74 e.w3 e.b3 (k0_pay72 (ldp e b hb LP 1 (by omega))) (ldp e b hb LP 0 (by omega))⟩ ::
        ⟨ubox 1 b 0 hb (by omega), k0_pay73 (F := Ideal)⟩ :: L

/-- The first transposed convolution from row `k` on. -/
def ldg (LG : Pieces S4x2056x128) (k : ℕ) (hk : k < 3) : Vec Ideal S1x2048x128 .f32 :=
  e.mg.view.readCov LG (ubox 2048 b k hb (by omega)).toLoadRect

/-- The even steps of the second transposed convolution. -/
def recE (LG : Pieces S4x2056x128) : FVec Ideal S2048x64 .f32 :=
  k0_pay78 e.w4 e.b4 (ldg e b hb LG 1 (by omega)) (ldg e b hb LG 0 (by omega))

/-- The odd steps. -/
def recO (LG : Pieces S4x2056x128) : FVec Ideal S2048x64 .f32 :=
  k0_pay79 e.w4 e.b4 (ldg e b hb LG 2 (by omega)) (ldg e b hb LG 1 (by omega))

/-- The second transposed convolution, its even and odd steps interleaved, stored over `L`. -/
def os (LG : Pieces S4x2056x128) (L : Pieces S4x4096x64) : Pieces S4x4096x64 :=
  ⟨box 2048 b 1 2 hb (by omega) (by omega), k0_pay84 (recO e b hb LG)⟩ ::
    ⟨box 2048 b 0 2 hb (by omega) (by omega), k0_pay83 (recE e b hb LG)⟩ :: L

/-- The reconstruction, transposed, as it is stored into the output. -/
def out (LO : Pieces S4x4096x64) : Vec Ideal S1x64x4096 .f32 :=
  k0_pay85 (e.mo.view.readCov LO (ubox 4096 b 0 hb (by omega)).toLoadRect)

/-- The quantisation error added to `a`. -/
def vq (LF : Pieces S4x1024x64) (a : FVec Ideal S1x1 .f32) : FVec Ideal S1x1 .f32 := k0_pay51 a (qerr e b hb LF)

/-- The reconstruction error added to `a`. -/
def rerr (LX : Pieces S4x4104x64) (LG : Pieces S4x2056x128) (a : FVec Ideal S1x1 .f32) : FVec Ideal S1x1 .f32 :=
  k0_pay82 a (k0_pay80 e.w4 e.b4 (ldg e b hb LG 1 (by omega)) (ldg e b hb LG 0 (by omega)) (ldx e b hb LX 1 (by omega)))
    (k0_pay81 e.w4 e.b4 (ldg e b hb LG 2 (by omega)) (ldg e b hb LG 1 (by omega)) (ldx e b hb LX 2 (by omega)))

/-- The stores into the seven scratch buffers are those of batch `b` on the input `z`, over what was there. -/
structure IsBatch (z : Vec Ideal S1x64x4096 .f32) (LX : Pieces S4x4104x64) (LH : Pieces S4x2056x128) (LF LQ : Pieces S4x1024x64)
    (LP : Pieces S4x1032x64) (LG : Pieces S4x2056x128) (LO : Pieces S4x4096x64) : Prop where
  x : ∃ L, LX = xs b hb z L
  h : ∃ L, LH = hs e b hb LX L
  f : ∃ L, LF = fs e b hb LH L
  q : ∃ L, LQ = qs e b hb LF L
  p : ∃ L, LP = ps e b hb LQ L
  g : ∃ L, LG = gs e b hb LP L
  o : ∃ L, LO = os e b hb LG L

end

end Cert.Proof.Batch
-- ==== Proof.BatchRun.lean ====
/-
  What one grid step is to be: the batch of `Batch`, four times, the four blocks stored into the output, and what is
  added to the two accumulators.
-/
module

public import proofs.«01_k».proof.Proof.Batch

@[expose] public section

set_option maxRecDepth 16384

noncomputable section

namespace Cert.Proof.Batch

open Cert.KernelIdeal Cert.KernelIdeal.Gen
open Idealize.ShloMosaic Idealize.ShloMosaic.TcCoe Idealize.SL.Sem

section

variable
  (arg1 : Memref sig .tc .vmem S4x64x4096 .f32) (harg1 : arg1.IsWhole)
  (arg2 : Memref sig .tc .vmem S2x128x128 .f32) (harg2 : arg2.IsWhole)
  (arg3 : Memref sig .tc .vmem S1x128 .f32) (harg3 : arg3.IsWhole)
  (arg4 : Memref sig .tc .vmem S2x256x64 .f32) (harg4 : arg4.IsWhole)
  (arg5 : Memref sig .tc .vmem S1x64 .f32) (harg5 : arg5.IsWhole)
  (arg6 : Memref sig .tc .vmem S512x64 .f32) (harg6 : arg6.IsWhole)
  (arg7 : Memref sig .tc .vmem S2x128x128 .f32) (harg7 : arg7.IsWhole)
  (arg8 : Memref sig .tc .vmem S1x128 .f32) (harg8 : arg8.IsWhole)
  (arg9 : Memref sig .tc .vmem S2x256x64 .f32) (harg9 : arg9.IsWhole)
  (arg10 : Memref sig .tc .vmem S1x64 .f32) (harg10 : arg10.IsWhole)
  (arg11 : Memref sig .tc .vmem S4x64x4096 .f32) (harg11 : arg11.IsWhole)
  (arg12 : Memref sig .tc .vmem S1x1 .f32) (harg12 : arg12.IsWhole)
  (arg13 : Memref sig .tc .vmem S1x1 .f32) (harg13 : arg13.IsWhole)
  (arg14 : Memref sig .tc .vmem S4x4104x64 .f32) (harg14 : arg14.IsWhole)
  (arg15 : Memref sig .tc .vmem S4x2056x128 .f32) (harg15 : arg15.IsWhole)
  (arg16 : Memref sig .tc .vmem S4x1024x64 .f32) (harg16 : arg16.IsWhole)
  (arg17 : Memref sig .tc .vmem S4x1024x64 .f32) (harg17 : arg17.IsWhole)
  (arg18 : Memref sig .tc .vmem S4x1032x64 .f32) (harg18 : arg18.IsWhole)
  (arg19 : Memref sig .tc .vmem S4x2056x128 .f32) (harg19 : arg19.IsWhole)
  (arg20 : Memref sig .tc .vmem S4x4096x64 .f32) (harg20 : arg20.IsWhole)
  (x0 : Vec Ideal S4x64x4096 .f32)
  (x1 : Vec Ideal S2x128x128 .f32)
  (x2 : Vec Ideal S1x128 .f32)
  (x3 : Vec Ideal S2x256x64 .f32)
  (x4 : Vec Ideal S1x64 .f32)
  (x5 : Vec Ideal S512x64 .f32)
  (x6 : Vec Ideal S2x128x128 .f32)
  (x7 : Vec Ideal S1x128 .f32)
  (x8 : Vec Ideal S2x256x64 .f32)
  (x9 : Vec Ideal S1x64 .f32)

/-- The scratch buffers and the weights of a run. -/
def env : Env where
  mx := arg14
  mh := arg15
  mf := arg16
  mq := arg17
  mp := arg18
  mg := arg19
  mo := arg20
  w1 := k0_pay7 (View.readAt (Elt Ideal) arg2.view (Rect.unit ![0, 0, 0] S2x128x128.size inb_S2x128x128_S2x128x128_0_0_0).toLoadRect (harg2.unread x1))
  b1 := k0_pay8 (View.readAt (Elt Ideal) arg3.view (Rect.unit ![0, 0] S1x128.size inb_S1x128_S1x128_0_0).toLoadRect (harg3.unread x2))
  w2 := k0_pay9 (View.readAt (Elt Ideal) arg4.view (Rect.unit ![0, 0, 0] S2x256x64.size inb_S2x256x64_S2x256x64_0_0_0).toLoadRect (harg4.unread x3))
  b2 := k0_pay10 (View.readAt (Elt Ideal) arg5.view (Rect.unit ![0, 0] S1x64.size inb_S1x64_S1x64_0_0).toLoadRect (harg5.unread x4))
  cb := (View.readAt (Elt Ideal) arg6.view (Rect.unit ![0, 0] S512x64.size inb_S512x64_S512x64_0_0).toLoadRect (harg6.unread x5))
  w3 := k0_pay11 (View.readAt (Elt Ideal) arg7.view (Rect.unit ![0, 0, 0] S2x128x128.size inb_S2x128x128_S2x128x128_0_0_0).toLoadRect (harg7.unread x6))
  b3 := k0_pay12 (View.readAt (Elt Ideal) arg8.view (Rect.unit ![0, 0] S1x128.size inb_S1x128_S1x128_0_0).toLoadRect (harg8.unread x7))
  w4 := k0_pay13 (View.readAt (Elt Ideal) arg9.view (Rect.unit ![0, 0, 0] S2x256x64.size inb_S2x256x64_S2x256x64_0_0_0).toLoadRect (harg9.unread x8))
  b4 := k0_pay14 (View.readAt (Elt Ideal) arg10.view (Rect.unit ![0, 0] S1x64.size inb_S1x64_S1x64_0_0).toLoadRect (harg10.unread x9))

/-- Batch `b` of the input block. -/
def inp (b : ℕ) (hb : b < 4) : Vec Ideal S1x64x4096 .f32 :=
  View.readAt (Elt Ideal) arg1.view (ubox 64 b 0 hb (by omega)).toLoadRect (harg1.unread x0)

end

/-- One grid step on the four batches `z`: `L10` are the stores into the output block, and `L11` and `L12` end with the
    two sums of squared errors added to `p11` and `p12`. -/
def IsRun (e : Env) (z : (b : ℕ) → b < 4 → Vec Ideal S1x64x4096 .f32) (p11 p12 : Vec Ideal S1x1 .f32)
    (L10 : Pieces S4x64x4096) (L11 L12 : Pieces S1x1) : Prop :=
  ∃ (LX : Fin 4 → Pieces S4x4104x64) (LH : Fin 4 → Pieces S4x2056x128) (LF LQ : Fin 4 → Pieces S4x1024x64)
    (LP : Fin 4 → Pieces S4x1032x64) (LG : Fin 4 → Pieces S4x2056x128) (LO : Fin 4 → Pieces S4x4096x64),
    (∀ b : Fin 4, IsBatch e b b.isLt (z b b.isLt) (LX b) (LH b) (LF b) (LQ b) (LP b) (LG b) (LO b)) ∧
    L10 = [⟨ubox 64 3 0 (by omega) (by omega), out e 3 (by omega) (LO 3)⟩, ⟨ubox 64 2 0 (by omega) (by omega), out e 2 (by omega) (LO 2)⟩,
      ⟨ubox 64 1 0 (by omega) (by omega), out e 1 (by omega) (LO 1)⟩, ⟨ubox 64 0 0 (by omega) (by omega), out e 0 (by omega) (LO 0)⟩] ∧
    (∃ L, L11 = ⟨Rect.unit ![0, 0] ![1, 1] inb_S1x1_S1x1_0_0, k0_pay5 (vq e 3 (by omega) (LF 3) (vq e 2 (by omega) (LF 2)
      (vq e 1 (by omega) (LF 1) (vq e 0 (by omega) (LF 0) k0_pay16)))) p11⟩ :: L) ∧
    ∃ L, L12 = ⟨Rect.unit ![0, 0] ![1, 1] inb_S1x1_S1x1_0_0, k0_pay6 (rerr e 3 (by omega) (LX 3) (LG 3) (rerr e 2 (by omega) (LX 2) (LG 2)
      (rerr e 1 (by omega) (LX 1) (LG 1) (rerr e 0 (by omega) (LX 0) (LG 0) k0_pay17)))) p12⟩ :: L

end Cert.Proof.Batch
-- ==== Proof.Rows.lean ====
/-
  What a scratch buffer of four batches holds of one batch, as a function of the row and the lane: the effect of one
  store, and what a load reads.
-/
module

public import proofs.«01_k».proof.Proof.Batch
public import Idealize.ShloMosaic.Lib.Pipeline.ReadBack

@[expose] public section

set_option maxRecDepth 16384

noncomputable section

namespace Cert.Proof.Batch

open Cert.KernelIdeal Cert.KernelIdeal.Gen
open Idealize.ShloMosaic Idealize.ShloMosaic.TcCoe Idealize.SL.Sem

variable {r m : ℕ}

/-- The stores `L` leave `G` in the rows of batch `b` that satisfy `P`. -/
def RowsOn (b : ℕ) (G : ℕ → ℕ → EReal) (P : ℕ → Prop) (L : Pieces ⟨3, ![4, r, m]⟩) : Prop :=
  ∀ y : (⟨3, ![4, r, m]⟩ : Shape).Idx, (y 0).val = b → P (y 1).val → View.canon L y = G (y 1).val (y 2).val

/-- Of no row anything is said. -/
theorem RowsOn.none {b : ℕ} {G : ℕ → ℕ → EReal} {L : Pieces ⟨3, ![4, r, m]⟩} : RowsOn b G (fun _ => False) L :=
  fun _ _ h => h.elim

/-- Fewer rows, and a function equal on them. -/
theorem RowsOn.mono {b : ℕ} {G G' : ℕ → ℕ → EReal} {P P' : ℕ → Prop} {L : Pieces ⟨3, ![4, r, m]⟩} (h : RowsOn b G P L)
    (hP : ∀ k, k < r → P' k → P k) (hG : ∀ k l, P' k → l < m → G k l = G' k l) : RowsOn b G' P' L :=
  fun y hy hp => (h y hy (hP _ (y 1).isLt hp)).trans (hG _ _ hp (y 2).isLt)

/-- The index of a box of one batch, from its row and its lane. -/
theorem eq_ix3 {n m : ℕ} (x : (⟨3, ![1, n, m]⟩ : Shape).Idx) : x = ix3 (0 : Fin 1) (x 1 : Fin n) (x 2 : Fin m) := by
  funext a
  match a with
  | 0 => exact Subsingleton.elim (α := Fin 1) _ _
  | 1 => rfl
  | 2 => rfl

/-- A store of the rows `o`, `o + d`, … over `L`: they hold its payload, the others what they held. -/
theorem RowsOn.box {b n o d : ℕ} {hb : b < 4} {hd : 0 < d} {ho : n = 0 ∨ o + d * (n - 1) < r} {G : ℕ → ℕ → EReal}
    {P Q : ℕ → Prop} {L : Pieces ⟨3, ![4, r, m]⟩} {p : (⟨3, ![1, n, m]⟩ : Shape).Idx → EReal} (hL : RowsOn b G Q L)
    (hp : ∀ (j : Fin n) (l : Fin m), p (ix3 (0 : Fin 1) j l) = G (o + d * j) l)
    (hP : ∀ k, k < r → P k → (∃ j < n, k = o + d * j) ∨ Q k) :
    RowsOn b G P (⟨box n b o d hb hd ho, p⟩ :: L) := by
  intro y hy hPy
  by_cases hm : y ∈ (Batch.box n b o d hb hd ho : Rect ⟨3, ![4, r, m]⟩).set
  · obtain ⟨x, rfl⟩ := LoadRect.exists_idx_of_mem _ hm
    refine (View.canon_cons_emb (Val := Elt Ideal) (e := .f32) (Batch.box n b o d hb hd ho) p L x).trans ?_
    rw [eq_ix3 (n := n) (m := m) x]
    refine (hp _ _).trans (congrArg₂ G rfl ?_)
    show _ = 0 + 1 * _
    rw [Nat.zero_add, Nat.one_mul]; rfl
  · refine (View.canon_cons_of_not_mem (Val := Elt Ideal) (e := .f32) ⟨Batch.box n b o d hb hd ho, p⟩ L hm).trans (hL y hy ((hP _ (y 1).isLt hPy).resolve_left fun ⟨j, hj, e⟩ => hm ?_))
    rw [LoadRect.mem_set]
    intro a
    match a with
    | 0 => exact ⟨0, Nat.one_pos, hy⟩
    | 1 => exact ⟨j, hj, e⟩
    | 2 => exact ⟨(y 2).val, (y 2).isLt, by show _ = 0 + 1 * _; omega⟩

/-- A store of `n` consecutive rows from row `o` over `L`. -/
theorem RowsOn.ubox {b n o : ℕ} {hb : b < 4} {ho : o + n ≤ r} {G : ℕ → ℕ → EReal}
    {P Q : ℕ → Prop} {L : Pieces ⟨3, ![4, r, m]⟩} {p : (⟨3, ![1, n, m]⟩ : Shape).Idx → EReal} (hL : RowsOn b G Q L)
    (hp : ∀ (j : Fin n) (l : Fin m), p (ix3 (0 : Fin 1) j l) = G (o + j) l)
    (hP : ∀ k, k < r → P k → (o ≤ k ∧ k < o + n) ∨ Q k) :
    RowsOn b G P (⟨ubox n b o hb ho, p⟩ :: L) := by
  intro y hy hPy
  by_cases hm : y ∈ (Batch.ubox n b o hb ho : Rect ⟨3, ![4, r, m]⟩).set
  · obtain ⟨x, rfl⟩ := LoadRect.exists_idx_of_mem _ hm
    refine (View.canon_cons_emb (Val := Elt Ideal) (e := .f32) (Batch.ubox n b o hb ho) p L x).trans ?_
    rw [eq_ix3 (n := n) (m := m) x]
    refine (hp _ _).trans (congrArg₂ G ?_ ?_)
    · show _ = o + 1 * _
      rw [Nat.one_mul]; rfl
    · show _ = 0 + 1 * _
      rw [Nat.zero_add, Nat.one_mul]; rfl
  · refine (View.canon_cons_of_not_mem (Val := Elt Ideal) (e := .f32) ⟨Batch.ubox n b o hb ho, p⟩ L hm).trans (hL y hy ((hP _ (y 1).isLt hPy).resolve_left fun ⟨h1, h2⟩ => hm ?_))
    refine Rect.mem_set_unit.mpr fun a => ?_
    match a with
    | 0 => exact ⟨hy.ge, by show (y 0).val < b + 1; omega⟩
    | 1 => exact ⟨h1, h2⟩
    | 2 => exact ⟨Nat.zero_le _, by show (y 2).val < 0 + m; have h := (y 2).isLt; change (y 2).val < m at h; omega⟩

/-- A load of the rows `o`, `o + d`, … reads what they hold. -/
theorem RowsOn.load {b n o d : ℕ} {hb : b < 4} {hd : 0 < d} {ho : n = 0 ∨ o + d * (n - 1) < r} {G : ℕ → ℕ → EReal}
    {P : ℕ → Prop} {L : Pieces ⟨3, ![4, r, m]⟩} (hL : RowsOn b G P L) (M : Memref sig .tc .vmem ⟨3, ![4, r, m]⟩ .f32)
    (j : Fin n) (l : Fin m) (hP : P (o + d * j)) :
    M.view.readCov L (Batch.box n b o d hb hd ho).toLoadRect (ix3 (0 : Fin 1) j l) = G (o + d * j) l := by
  rw [View.readCov_eq_canon']
  refine (hL _ rfl hP).trans (congrArg₂ G rfl ?_)
  show 0 + 1 * l.val = l.val
  omega

/-- A load of `n` consecutive rows from row `o`. -/
theorem RowsOn.uload {b n o : ℕ} {hb : b < 4} {ho : o + n ≤ r} {G : ℕ → ℕ → EReal}
    {P : ℕ → Prop} {L : Pieces ⟨3, ![4, r, m]⟩} (hL : RowsOn b G P L) (M : Memref sig .tc .vmem ⟨3, ![4, r, m]⟩ .f32)
    (j : Fin n) (l : Fin m) (hP : P (o + j)) :
    M.view.readCov L (Batch.ubox n b o hb ho).toLoadRect (ix3 (0 : Fin 1) j l) = G (o + j) l := by
  rw [View.readCov_eq_canon']
  refine (hL _ rfl (by show P (o + 1 * j.val); rw [Nat.one_mul]; exact hP)).trans (congrArg₂ G ?_ ?_)
  · show o + 1 * j.val = _
    omega
  · show 0 + 1 * l.val = l.val
    omega

end Cert.Proof.Batch
-- ==== Proof.Spec.lean ====
/-
  The mathematics that the kernel and the reference both compute, over the extended reals: sequences indexed by a
  channel and a time are functions `ℕ → ℕ → EReal`, zero outside their range.
-/
module

public import Mathlib.Data.EReal.Operations
public import Mathlib.Algebra.BigOperators.Fin

@[expose] public section

noncomputable section

namespace Cert.Proof.Spec

/-- The sequence `x` shifted by one step, a zero before it: position `p` holds step `p - 1`. -/
def pd (x : ℕ → ℕ → EReal) (c p : ℕ) : EReal := if p = 0 then 0 else x c (p - 1)

/-- Tap `j` of a stride-2 convolution of `n` channels with padding 1, at output channel `o` and step `t`. -/
def tap (n : ℕ) (x : ℕ → ℕ → EReal) (w : ℕ → ℕ → ℕ → EReal) (o t j : ℕ) : EReal :=
  ∑ i : Fin n, pd x i (2 * t + j) * w o i j

/-- Four taps, the bias and the clamp at zero: `T` steps of a stride-2 convolution of width 4. -/
def conv (n T : ℕ) (x : ℕ → ℕ → EReal) (w : ℕ → ℕ → ℕ → EReal) (b : ℕ → EReal) (o t : ℕ) : EReal :=
  if t < T then max (tap n x w o t 0 + tap n x w o t 1 + (tap n x w o t 2 + tap n x w o t 3) + b o) 0 else 0

/-- Tap `j` of a stride-2 transposed convolution of `n` channels at shifted position `p`. -/
def dtap (n : ℕ) (q : ℕ → ℕ → EReal) (w : ℕ → ℕ → ℕ → EReal) (o p j : ℕ) : EReal :=
  ∑ i : Fin n, pd q i p * w i o j

/-- The four taps summed from the left. -/
theorem conv_eq {n T : ℕ} {x : ℕ → ℕ → EReal} {w : ℕ → ℕ → ℕ → EReal} {b : ℕ → EReal} {o t : ℕ} (h : t < T) :
    conv n T x w b o t = max (tap n x w o t 0 + tap n x w o t 1 + tap n x w o t 2 + tap n x w o t 3 + b o) 0 := by
  rw [conv, if_pos h, ← add_assoc (tap n x w o t 0 + tap n x w o t 1)]

/-- A stride-2 transposed convolution of width 4 with padding 1: an even step meets taps 1 and 3, an odd one taps 0
    and 2. -/
def deconv (n : ℕ) (q : ℕ → ℕ → EReal) (w : ℕ → ℕ → ℕ → EReal) (b : ℕ → EReal) (o t : ℕ) : EReal :=
  if t % 2 = 0 then dtap n q w o (t / 2 + 1) 1 + dtap n q w o (t / 2) 3 + b o
  else dtap n q w o (t / 2 + 2) 0 + dtap n q w o (t / 2 + 1) 2 + b o

/-- The transposed convolution clamped at zero, on its first `T` steps. -/
def dconv (n T : ℕ) (q : ℕ → ℕ → EReal) (w : ℕ → ℕ → ℕ → EReal) (b : ℕ → EReal) (o t : ℕ) : EReal :=
  if t < T then max (deconv n q w b o t) 0 else 0

/-- The sequence `z` of 64 channels and 1024 steps read as rows of 64: row `r`, lane `l`. -/
def row (z : ℕ → ℕ → EReal) (r l : ℕ) : EReal := z (r / 16) (r % 16 * 64 + l)

/-- The inverse: rows of 64 read as a sequence of 1024 steps. -/
def unrow (q : ℕ → ℕ → EReal) (c t : ℕ) : EReal := if t < 1024 then q (16 * c + t / 64) (t % 64) else 0

/-- The kernel's score of code `k` at row `f`: the squared norm of the code less twice its product with the row. -/
def score (f : ℕ → EReal) (cb : ℕ → ℕ → EReal) (k : ℕ) : EReal :=
  (∑ l : Fin 64, cb k l * cb k l) - ((∑ l : Fin 64, f l * cb k l) + ∑ l : Fin 64, f l * cb k l)

/-- `k` is the first of 512 codes of least value of `s`. -/
def First (s : ℕ → EReal) (k : ℕ) : Prop := k < 512 ∧ (∀ j < 512, s k ≤ s j) ∧ ∀ j < k, s k < s j

/-- At most one code is first. -/
theorem First.unique {s : ℕ → EReal} {k k' : ℕ} (h : First s k) (h' : First s k') : k = k' := by
  rcases lt_trichotomy k k' with hlt | rfl | hlt
  · exact absurd (h.2.1 k' h'.1) (not_le.mpr (h'.2.2 k hlt))
  · rfl
  · exact absurd (h'.2.1 k h.1) (not_le.mpr (h.2.2 k' hlt))

/-- Some code is first. -/
theorem First.exists (s : ℕ → EReal) : ∃ k, First s k := by
  classical
  obtain ⟨k₀, hk₀, hmin⟩ := Finset.exists_min_image (Finset.range 512) s ⟨0, by simp⟩
  have hex : ∃ k, k < 512 ∧ ∀ j < 512, s k ≤ s j := ⟨k₀, by simpa using hk₀, fun j hj => hmin j (by simpa using hj)⟩
  refine ⟨Nat.find hex, (Nat.find_spec hex).1, (Nat.find_spec hex).2, fun j hj => ?_⟩
  by_contra hle
  exact Nat.find_min hex hj ⟨hj.trans (Nat.find_spec hex).1, fun i hi => (not_lt.mp hle).trans ((Nat.find_spec hex).2 i hi)⟩

/-- Two values that order the codes alike have the same first code. -/
theorem First.congr {s s' : ℕ → EReal} (h : ∀ j < 512, ∀ k < 512, (s j ≤ s k ↔ s' j ≤ s' k)) {k : ℕ}
    (hk : First s k) : First s' k :=
  ⟨hk.1, fun j hj => (h k hk.1 j hj).mp (hk.2.1 j hj),
    fun j hj => not_le.mp fun hle => not_le.mpr (hk.2.2 j hj) ((h j (hj.trans hk.1) k hk.1).mpr hle)⟩

/-- The code of least score at row `f`, the first of them. -/
def pick (f : ℕ → EReal) (cb : ℕ → ℕ → EReal) : ℕ := (First.exists (score f cb)).choose

theorem pick_first (f : ℕ → EReal) (cb : ℕ → ℕ → EReal) : First (score f cb) (pick f cb) :=
  (First.exists (score f cb)).choose_spec

theorem pick_lt (f : ℕ → EReal) (cb : ℕ → ℕ → EReal) : pick f cb < 512 := (pick_first f cb).1

/-- The quantised rows: row `r` is the code picked at row `r` of `z`. -/
def quant (z cb : ℕ → ℕ → EReal) (r l : ℕ) : EReal := cb (pick (row z r) cb) l

end Cert.Proof.Spec

end
-- ==== Proof.BatchEnc.lean ====
/-
  The encoder of one batch: what the scratch buffers hold of the input, of the first convolution, and of the second laid
  out as rows of 64.
-/
module

public import proofs.«01_k».proof.Proof.Rows
public import proofs.«01_k».proof.Proof.Spec

@[expose] public section

set_option maxRecDepth 16384

noncomputable section

namespace Cert.Proof.Batch

open Cert.KernelIdeal Cert.KernelIdeal.Gen
open Idealize.ShloMosaic Idealize.ShloMosaic.TcCoe Idealize.SL.Sem
open Cert.Proof.Spec

variable {e : Env} {b : ℕ} {hb : b < 4}

/-- Before the first step of the shifted sequence there is a zero. -/
theorem pd_zero (x : ℕ → ℕ → EReal) (c : ℕ) {p : ℕ} (hp : p = 0) : pd x c p = 0 := if_pos hp

/-- A later position of the shifted sequence. -/
theorem pd_pos (x : ℕ → ℕ → EReal) (c : ℕ) {p t : ℕ} (hp : p = t + 1) : pd x c p = x c t := by
  subst hp
  exact if_neg (Nat.succ_ne_zero t)

/-- Two sums of four terms and a bias clamped at zero, equal term by term. -/
theorem max_taps {a b c d s a' b' c' d' s' : EReal} (ha : a = a') (hb : b = b') (hc : c = c') (hd : d = d') (hs : s = s') :
    max (a + b + (c + d) + s) 0 = max (a' + b' + (c' + d') + s') 0 := by
  rw [ha, hb, hc, hd, hs]

set_option backward.isDefEq.respectTransparency false in
/-- The input's buffer holds the sequence shifted by one step. -/
theorem xs_rows {X : ℕ → ℕ → EReal} {z : Vec Ideal S1x64x4096 .f32} {L : Pieces S4x4104x64}
    (hz : ∀ (c : Fin 64) (t : Fin 4096), z (ix3 (0 : Fin 1) c t) = X c t) (hz0 : ∀ c t, 4096 ≤ t → X c t = 0) :
    RowsOn b (fun p c => pd X c p) (fun _ => True) (xs b hb z L) := by
  refine RowsOn.ubox (Q := fun k => k < 4097) (RowsOn.ubox (Q := fun k => k < 1) (RowsOn.ubox (Q := fun _ => False) RowsOn.none
    (fun j l => ?_) (fun k _ h => .inl (by omega))) (fun j l => ?_) (fun k _ h => by omega)) (fun j l => ?_) (fun k hk _ => by omega)
  · pointwise [k0_pay20, k0_pay19]
    exact (pd_zero X l (by omega)).symm
  · pointwise [k0_pay21, k0_pay18]
    exact (hz l j).trans (pd_pos X l (by omega)).symm
  · pointwise [k0_pay22]
    exact ((pd_pos X l (t := 4096 + j) (by omega)).trans (hz0 _ _ (by omega))).symm

set_option backward.isDefEq.respectTransparency false in
/-- The first convolution. -/
theorem hid_eq {X : ℕ → ℕ → EReal} {W : ℕ → ℕ → ℕ → EReal} {B : ℕ → EReal} {LX : Pieces S4x4104x64}
    (hX : RowsOn b (fun p c => pd X c p) (fun _ => True) LX)
    (hW : ∀ (a : Fin 2) (i : Fin 128) (o : Fin 128), e.w1 (ix3 a i o) = W o (i % 64) (2 * a + i / 64))
    (hB : ∀ o : Fin 128, e.b1 (ix2 (0 : Fin 1) o) = B o) (j : Fin 2048) (o : Fin 128) :
    hid e b hb LX (ix2 j o) = conv 64 2048 X W B o j := by
  have hl : ∀ (k : ℕ) (hk : k < 4) (i : Fin 64), ldx e b hb LX k hk (ix3 (0 : Fin 1) j i) = pd X i (2 * j + k) :=
    fun k hk i => (hX.load e.mx j i trivial).trans (congrArg (pd X i) (Nat.add_comm _ _))
  rw [conv, if_pos j.isLt]
  unfold hid
  pointwise [k0_pay23]
  refine max_taps ?_ ?_ ?_ ?_ (hB o) <;>
    exact Finset.sum_congr rfl fun i _ => congrArg₂ (· * ·) (hl _ _ _) ((hW _ _ _).trans (congrArg₂ (W o) (by dsimp only [Fin.val_zero, Fin.val_one]; omega) (by dsimp only [Fin.val_zero, Fin.val_one]; omega)))

set_option backward.isDefEq.respectTransparency false in
/-- The first convolution's buffer holds it shifted by one step. -/
theorem hs_rows {H : ℕ → ℕ → EReal} {LX : Pieces S4x4104x64} {L : Pieces S4x2056x128}
    (hh : ∀ (j : Fin 2048) (o : Fin 128), hid e b hb LX (ix2 j o) = H o j) (hh0 : ∀ c t, 2048 ≤ t → H c t = 0) :
    RowsOn b (fun p c => pd H c p) (fun _ => True) (hs e b hb LX L) := by
  refine RowsOn.ubox (Q := fun k => k < 2049) (RowsOn.ubox (Q := fun k => k < 1) (RowsOn.ubox (Q := fun _ => False) RowsOn.none
    (fun j l => ?_) (fun k _ h => .inl (by omega))) (fun j l => ?_) (fun k _ h => by omega)) (fun j l => ?_) (fun k hk _ => by omega)
  · pointwise [k0_pay25, k0_pay24]
    exact (pd_zero H l (by omega)).symm
  · pointwise [k0_pay26]
    exact (hh j l).trans (pd_pos H l (by omega)).symm
  · pointwise [k0_pay27]
    exact ((pd_pos H l (t := 2048 + j) (by omega)).trans (hh0 _ _ (by omega))).symm

set_option backward.isDefEq.respectTransparency false in
/-- The second convolution. -/
theorem lat_eq {X : ℕ → ℕ → EReal} {W : ℕ → ℕ → ℕ → EReal} {B : ℕ → EReal} {LH : Pieces S4x2056x128}
    (hX : RowsOn b (fun p c => pd X c p) (fun _ => True) LH)
    (hW : ∀ (a : Fin 2) (i : Fin 256) (o : Fin 64), e.w2 (ix3 a i o) = W o (i % 128) (2 * a + i / 128))
    (hB : ∀ o : Fin 64, e.b2 (ix2 (0 : Fin 1) o) = B o) (j : Fin 1024) (o : Fin 64) :
    lat e b hb LH (ix2 j o) = conv 128 1024 X W B o j := by
  have hl : ∀ (k : ℕ) (hk : k < 4) (i : Fin 128), ldh e b hb LH k hk (ix3 (0 : Fin 1) j i) = pd X i (2 * j + k) :=
    fun k hk i => (hX.load e.mh j i trivial).trans (congrArg (pd X i) (Nat.add_comm _ _))
  rw [conv, if_pos j.isLt]
  unfold lat
  pointwise [k0_pay28]
  refine max_taps ?_ ?_ ?_ ?_ (hB o) <;>
    exact Finset.sum_congr rfl fun i _ => congrArg₂ (· * ·) (hl _ _ _) ((hW _ _ _).trans (congrArg₂ (W o) (by dsimp only [Fin.val_zero, Fin.val_one]; omega) (by dsimp only [Fin.val_zero, Fin.val_one]; omega)))

/-- Sixteen strided stores leave the rows that they name. -/
theorem lanes_rows {G : ℕ → ℕ → EReal} {p : (s : ℕ) → s < 16 → Vec Ideal S1x64x64 .f32} {L : Pieces S4x1024x64}
    (hp : ∀ (s : ℕ) (hs : s < 16) (j l : Fin 64), p s hs (ix3 (0 : Fin 1) j l) = G (s + 16 * j) l) :
    ∀ (n : ℕ) (hn : n ≤ 16), RowsOn b G (fun k => k % 16 < n) (lanes b hb p L n hn)
  | 0, _ => RowsOn.none.mono (fun _ _ h => absurd h (Nat.not_lt_zero _)) fun _ _ _ _ => rfl
  | n + 1, hn => RowsOn.box (lanes_rows hp n (by omega)) (hp n (by omega)) fun k hk h => by
      by_cases hlt : k % 16 < n
      · exact .inr hlt
      · exact .inl ⟨k / 16, by omega, by omega⟩

set_option backward.isDefEq.respectTransparency false in
/-- The latent's buffer holds it as rows of 64. -/
theorem fs_rows {Z : ℕ → ℕ → EReal} {LH : Pieces S4x2056x128} {L : Pieces S4x1024x64}
    (hl : ∀ (j : Fin 1024) (o : Fin 64), lat e b hb LH (ix2 j o) = Z o j) :
    RowsOn b (row Z) (fun _ => True) (fs e b hb LH L) := by
  refine (lanes_rows (G := row Z) (fun s hs j l => ?_) 16 (le_refl _)).mono (fun k _ _ => Nat.mod_lt _ (by omega)) fun _ _ _ _ => rfl
  pointwise [cut]
  refine (hl _ _).trans ?_
  unfold row
  exact congrArg₂ Z (by omega) (by dsimp only; omega)

end Cert.Proof.Batch
-- ==== Proof.BatchVq.lean ====
/-
  The quantiser of one batch: each row of the latent is replaced by the code of least score, the first of them, and the
  squared errors are summed.
-/
module

public import proofs.«01_k».proof.Proof.BatchEnc
public import Idealize.ShloMosaic.Lib.WordCmp

@[expose] public section

set_option maxRecDepth 16384

noncomputable section

namespace Cert.Proof.Batch

open Cert.KernelIdeal Cert.KernelIdeal.Gen Cert.Proof.Spec
open Idealize.ShloMosaic Idealize.ShloMosaic.TcCoe Idealize.SL.Sem

variable {e : Env} {b : ℕ} {hb : b < 4}

/-- The word of positive infinity is the top value. -/
theorem ofBits_inf : Ideal.ofBits .f32 0x7F800000#32 = ⊤ := by
  simp [Ideal.ofBits, Ideal.ieee]

/-- A least value is the fold of the minimum. -/
theorem fold_min_eq {f : Fin 512 → EReal} {p : Fin 512} (h : ∀ j, f p ≤ f j) : Finset.fold min (⊤ : EReal) f Finset.univ = f p :=
  le_antisymm (Finset.fold_min_le (c := f p) |>.mpr (.inr ⟨p, Finset.mem_univ _, le_refl _⟩))
    (Finset.le_fold_min (c := f p) |>.mpr ⟨le_top, fun j _ => h j⟩)

/-- The signed minimum of two words. -/
theorem minsi_toInt (x y : BitVec 32) : (IntOp.minsi x y).toInt = min x.toInt y.toInt := by
  unfold IntOp.minsi
  rw [BitVec.slt_eq_decide]
  by_cases h : x.toInt < y.toInt
  · rw [if_pos (by simpa using h), min_eq_left h.le]
  · rw [if_neg (by simpa using h), min_eq_right (not_lt.mp h)]

/-- A small number's word read as a signed number. -/
theorem toInt_small {k : ℕ} (h : k ≤ 512) : (BitVec.ofNat 32 k).toInt = k := by
  rw [BitVec.toInt_eq_toNat_of_lt] <;> rw [BitVec.toNat_ofNat, Nat.mod_eq_of_lt (by omega)]
  omega

/-- The fold of the signed minimum over the codes of least value is the first of them. -/
theorem fold_minsi_eq {s : ℕ → EReal} {p : ℕ} (h : First s p) :
    Finset.fold IntOp.minsi (2147483647#32) (fun x : Fin 512 => if s x = s p then BitVec.ofNat 32 x else 512#32) Finset.univ
      = BitVec.ofNat 32 p := by
  have hp : p < 512 := h.1
  refine BitVec.eq_of_toInt_eq ?_
  rw [← Finset.fold_hom (op' := min) minsi_toInt, toInt_small hp.le]
  refine le_antisymm (Finset.fold_min_le (c := (p : ℤ)) |>.mpr (.inr ⟨⟨p, hp⟩, Finset.mem_univ _, ?_⟩))
    (Finset.le_fold_min (c := (p : ℤ)) |>.mpr ⟨?_, fun j _ => ?_⟩)
  · rw [if_pos rfl, toInt_small hp.le]
  · have : (2147483647#32 : BitVec 32).toInt = 2147483647 := by decide
    omega
  · split_ifs with hj
    · rw [toInt_small j.isLt.le]
      by_contra hlt
      exact absurd hj (h.2.2 j (by omega)).ne'
    · have := toInt_small (le_refl 512)
      change (p : ℤ) ≤ (BitVec.ofNat 32 512).toInt
      omega

/-- A code's indicator. -/
theorem indicator_eq {k p : ℕ} (hk : k < 512) (hp : p < 512) :
    (FloatOps.sitofp FTy.f32 (BitVec.setWidth 32 (IntOp.cmpi CmpIPredicate.eq (BitVec.ofNat 32 k) (BitVec.ofNat 32 p))) : Ideal .f32)
      = (if k = p then 1 else 0 : EReal) := by
  rw [WordCmp.cmpi_eq_ofNat (by omega) (by omega)]
  by_cases h : k = p
  · simp [h, FloatOps.sitofp]
  · simp [h, FloatOps.sitofp]

set_option backward.isDefEq.respectTransparency false in
/-- The quantised row. -/
theorem quant_eq {Z C : ℕ → ℕ → EReal} {cb : Vec Ideal S512x64 .f32} {v : Vec Ideal S1x1024x64 .f32}
    (hC : ∀ (k : Fin 512) (l : Fin 64), cb (ix2 k l) = C k l)
    (hv : ∀ (r : Fin 1024) (l : Fin 64), v (ix3 (0 : Fin 1) r l) = row Z r l) (r : Fin 1024) (l : Fin 64) :
    k0_pay48 cb (k0_pay15 cb) (iota .tc S1024x512 32 [1] iota_S1024x512_d1_w32) v (ix2 r l) = quant Z C r l := by
  have hpk := pick_first (row Z r) C
  unfold quant
  generalize pick (row Z r) C = p at hpk
  have hs : ∀ x : Fin 512, (∑ i : Fin 64, cb (ix2 x i) * cb (ix2 x i)) - ((∑ i : Fin 64, v (ix3 (0 : Fin 1) r i) * cb (ix2 x i)) +
      ∑ i : Fin 64, v (ix3 (0 : Fin 1) r i) * cb (ix2 x i)) = score (row Z r) C x := fun x => by
    unfold score
    simp only [hC, hv]
  pointwise [k0_pay48, k0_pay47, k0_pay15]
  simp only [hs, ofBits_inf]
  rw [fold_min_eq (f := fun x : Fin 512 => score (row Z r) C x) (p := ⟨p, hpk.1⟩) fun j => hpk.2.1 j j.isLt]
  simp only [fold_minsi_eq hpk, indicator_eq (Fin.isLt _) hpk.1, hC]
  rw [Finset.sum_eq_single (⟨p, hpk.1⟩ : Fin 512)]
  · rw [if_pos rfl, one_mul]
  · intro k _ hk
    rw [if_neg fun h => hk (Fin.ext h), zero_mul]
  · exact fun h => absurd (Finset.mem_univ _) h

section

variable {Z C : ℕ → ℕ → EReal} {LF L : Pieces S4x1024x64} (hC : ∀ (k : Fin 512) (l : Fin 64), e.cb (ix2 k l) = C k l)
  (hZ : RowsOn b (row Z) (fun _ => True) LF)

/-- The rows as the quantiser loads them. -/
theorem ldf_eq {hb : b < 4} (hZ : RowsOn b (row Z) (fun _ => True) LF) (r : Fin 1024) (l : Fin 64) :
    ldf e b hb LF (ix3 (0 : Fin 1) r l) = row Z r l :=
  (hZ.uload e.mf r l trivial).trans (congrArg (row Z · l) (Nat.zero_add _))

include hC hZ

set_option backward.isDefEq.respectTransparency false in
/-- The quantiser's buffer holds the quantised rows. -/
theorem qs_rows : RowsOn b (quant Z C) (fun _ => True) (qs e b hb LF L) := by
  refine RowsOn.ubox (Q := fun _ => False) RowsOn.none (fun j l => ?_) (fun k hk _ => .inl (by omega))
  pointwise [k0_pay49]
  exact (quant_eq hC (ldf_eq hZ) j l).trans (congrArg (quant Z C · l) (by omega))

set_option backward.isDefEq.respectTransparency false in
/-- The quantisation error added to `a`. -/
theorem vq_eq (a : FVec Ideal S1x1 .f32) :
    vq e b hb LF a (ix2 (0 : Fin 1) (0 : Fin 1)) = a (ix2 (0 : Fin 1) (0 : Fin 1)) +
      ∑ r : Fin 1024, ∑ l : Fin 64, (quant Z C r l - row Z r l) * (quant Z C r l - row Z r l) := by
  pointwise [vq, k0_pay51, qerr, k0_pay50, k0_pay47]
  refine congrArg (a (ix2 (0 : Fin 1) (0 : Fin 1)) + ·) (Finset.sum_congr rfl fun r _ => Finset.sum_congr rfl fun l _ => ?_)
  have h := congrArg₂ (fun x y : EReal => x - y) (quant_eq hC (ldf_eq hZ (e := e) (hb := hb)) r l) (ldf_eq (e := e) (hb := hb) hZ r l)
  exact congrArg₂ (fun x y : EReal => x * y) h h

end

end Cert.Proof.Batch
-- ==== Proof.BatchDec.lean ====
/-
  The decoder of one batch: the rows of the quantised sequence's buffer, the two transposed convolutions, the
  reconstruction and its squared error.
-/
module

public import proofs.«01_k».proof.Proof.BatchEnc

@[expose] public section

set_option maxRecDepth 16384

noncomputable section

namespace Cert.Proof.Batch

open Cert.KernelIdeal Cert.KernelIdeal.Gen Cert.Proof.Spec
open Idealize.ShloMosaic Idealize.ShloMosaic.TcCoe Idealize.SL.Sem

variable {e : Env} {b : ℕ} {hb : b < 4}

/-- An even step of the transposed convolution. -/
theorem deconv_even (n : ℕ) (q : ℕ → ℕ → EReal) (w : ℕ → ℕ → ℕ → EReal) (bi : ℕ → EReal) (o : ℕ) {t j : ℕ} (h : t = 2 * j) :
    deconv n q w bi o t = dtap n q w o (j + 1) 1 + dtap n q w o j 3 + bi o := by
  rw [deconv, if_pos (by omega), show t / 2 = j by omega]

/-- An odd step. -/
theorem deconv_odd (n : ℕ) (q : ℕ → ℕ → EReal) (w : ℕ → ℕ → ℕ → EReal) (bi : ℕ → EReal) (o : ℕ) {t j : ℕ} (h : t = 2 * j + 1) :
    deconv n q w bi o t = dtap n q w o (j + 2) 0 + dtap n q w o (j + 1) 2 + bi o := by
  rw [deconv, if_neg (by omega), show t / 2 = j by omega]

/-- Sixteen blocks of rows leave the rows that they name. -/
theorem blocks_rows {G : ℕ → ℕ → EReal} {p : (s : ℕ) → s < 16 → Vec Ideal S1x64x64 .f32} {L : Pieces S4x1032x64}
    (hL : RowsOn b G (fun k => k < 1) L)
    (hp : ∀ (s : ℕ) (hs : s < 16) (j l : Fin 64), p s hs (ix3 (0 : Fin 1) j l) = G (64 * s + 1 + j) l) :
    ∀ (n : ℕ) (hn : n ≤ 16), RowsOn b G (fun k => k < 64 * n + 1) (blocks b hb p L n hn)
  | 0, _ => hL
  | n + 1, hn => RowsOn.ubox (blocks_rows hL hp n (by omega)) (hp n (by omega)) fun k hk h => by omega

set_option backward.isDefEq.respectTransparency false in
/-- The quantised sequence's buffer holds it shifted by one step. -/
theorem ps_rows {Q : ℕ → ℕ → EReal} {LQ : Pieces S4x1024x64} {L : Pieces S4x1032x64} (hQ : RowsOn b Q (fun _ => True) LQ) :
    RowsOn b (fun p c => pd (unrow Q) c p) (fun _ => True) (ps e b hb LQ L) := by
  refine RowsOn.ubox (Q := fun k => k < 64 * 16 + 1) (blocks_rows (RowsOn.ubox (Q := fun _ => False) RowsOn.none
    (fun j l => ?_) (fun k _ h => .inl (by omega))) (fun s hs j l => ?_) 16 (le_refl _)) (fun j l => ?_) (fun k hk _ => by omega)
  · pointwise [k0_pay52]
    exact (pd_zero _ l (by omega)).symm
  · pointwise [ldq, k0_pay53]
    refine (hQ.load (hb := hb) (hd := by omega) (ho := by omega) e.mq l j trivial).trans ((pd_pos (unrow Q) l (t := 64 * s + j) (by omega)).trans ?_).symm
    rw [unrow, if_pos (by omega)]
    exact congrArg₂ Q (by omega) (by omega)
  · pointwise [k0_pay71]
    exact ((pd_pos (unrow Q) l (t := 1024 + j) (by omega)).trans (if_neg (by omega))).symm

/-- Two sums and a bias clamped at zero, equal term by term. -/
theorem max_pair {a b s a' b' s' : EReal} (ha : a = a') (hb : b = b') (hs : s = s') :
    max (a + b + s) 0 = max (a' + b' + s') 0 := by
  rw [ha, hb, hs]

/-- Two sums and a bias, equal term by term. -/
theorem add_pair {a b s a' b' s' : EReal} (ha : a = a') (hb : b = b') (hs : s = s') : a + b + s = a' + b' + s' := by
  rw [ha, hb, hs]

set_option backward.isDefEq.respectTransparency false in
/-- The buffer of the first transposed convolution holds it shifted by one step. -/
theorem gs_rows {Q : ℕ → ℕ → EReal} {W : ℕ → ℕ → ℕ → EReal} {B : ℕ → EReal} {LP : Pieces S4x1032x64} {L : Pieces S4x2056x128}
    (hQ : RowsOn b (fun p c => pd Q c p) (fun _ => True) LP)
    (hW : ∀ (a : Fin 2) (i : Fin 128) (o : Fin 128), e.w3 (ix3 a i o) = W (i % 64) o (1 - a + 2 * (i / 64)))
    (hB : ∀ o : Fin 128, e.b3 (ix2 (0 : Fin 1) o) = B o) :
    RowsOn b (fun p c => pd (dconv 64 2048 Q W B) c p) (fun _ => True) (gs e b hb LP L) := by
  have hl : ∀ (k : ℕ) (hk : k < 3) (j : Fin 1024) (i : Fin 64), ldp e b hb LP k hk (ix3 (0 : Fin 1) j i) = pd Q i (j + k) :=
    fun k hk j i => (hQ.uload e.mp j i trivial).trans (congrArg (pd Q i) (Nat.add_comm _ _))
  refine RowsOn.ubox (Q := fun k => k < 2049) (RowsOn.box (Q := fun k => k = 0 ∨ k % 2 = 1 ∧ k < 2049)
    (RowsOn.box (Q := fun k => k < 1) (RowsOn.ubox (Q := fun _ => False) RowsOn.none
      (fun j l => ?_) (fun k _ h => .inl (by omega))) (fun j l => ?_) (fun k _ h => ?_)) (fun j l => ?_) (fun k _ h => ?_))
    (fun j l => ?_) (fun k hk _ => by omega)
  · pointwise [k0_pay73]
    exact (pd_zero _ l (by omega)).symm
  · rw [pd_pos (dconv 64 2048 Q W B) l (t := 2 * j) (by omega), dconv, if_pos (by omega), deconv_even 64 Q W B l rfl]
    pointwise [k0_pay74, k0_pay72]
    refine max_pair ?_ ?_ (hB l) <;>
      exact Finset.sum_congr rfl fun i _ => congrArg₂ (· * ·) (hl _ _ _ _) ((hW _ _ _).trans
        (congrArg₂ (fun i k => W i l k) (by dsimp only [Fin.val_zero, Fin.val_one]; omega) (by dsimp only [Fin.val_zero, Fin.val_one]; omega)))
  · rcases h with h | h
    · exact .inr (by omega)
    · exact .inl ⟨k / 2, by omega, by omega⟩
  · rw [pd_pos (dconv 64 2048 Q W B) l (t := 2 * j + 1) (by omega), dconv, if_pos (by omega), deconv_odd 64 Q W B l rfl]
    pointwise [k0_pay75]
    refine max_pair ?_ ?_ (hB l) <;>
      exact Finset.sum_congr rfl fun i _ => congrArg₂ (· * ·) (hl _ _ _ _) ((hW _ _ _).trans
        (congrArg₂ (fun i k => W i l k) (by dsimp only [Fin.val_zero, Fin.val_one]; omega) (by dsimp only [Fin.val_zero, Fin.val_one]; omega)))
  · by_cases hk : k = 0 ∨ k % 2 = 1 ∧ k < 2049
    · exact .inr hk
    · exact .inl ⟨(k - 2) / 2, by omega, by omega⟩
  · pointwise [k0_pay77, k0_pay76]
    exact ((pd_pos (dconv 64 2048 Q W B) l (t := 2048 + j) (by omega)).trans (if_neg (by omega))).symm

section

variable {G : ℕ → ℕ → EReal} {W : ℕ → ℕ → ℕ → EReal} {B : ℕ → EReal} {LG : Pieces S4x2056x128}

/-- The first transposed convolution from row `k` on. -/
theorem ldg_eq (hG : RowsOn b (fun p c => pd G c p) (fun _ => True) LG) (k : ℕ) (hk : k < 3) (j : Fin 2048) (i : Fin 128) :
    ldg e b hb LG k hk (ix3 (0 : Fin 1) j i) = pd G i (j + k) :=
  (hG.uload e.mg j i trivial).trans (congrArg (pd G i) (Nat.add_comm _ _))

variable (hG : RowsOn b (fun p c => pd G c p) (fun _ => True) LG)
  (hW : ∀ (a : Fin 2) (i : Fin 256) (o : Fin 64), e.w4 (ix3 a i o) = W (i % 128) o (1 - a + 2 * (i / 128)))
  (hB : ∀ o : Fin 64, e.b4 (ix2 (0 : Fin 1) o) = B o)

include hG hW hB

set_option backward.isDefEq.respectTransparency false in
/-- The even steps of the reconstruction. -/
theorem recE_eq (j : Fin 2048) (o : Fin 64) : recE e b hb LG (ix2 j o) = deconv 128 G W B o (2 * j) := by
  rw [deconv_even 128 G W B o rfl]
  pointwise [recE, k0_pay78]
  refine add_pair ?_ ?_ (hB o) <;>
    exact Finset.sum_congr rfl fun i _ => congrArg₂ (· * ·) (ldg_eq hG _ _ _ _) ((hW _ _ _).trans
      (congrArg₂ (fun i k => W i o k) (by dsimp only [Fin.val_zero, Fin.val_one]; omega) (by dsimp only [Fin.val_zero, Fin.val_one]; omega)))

set_option backward.isDefEq.respectTransparency false in
/-- The odd steps. -/
theorem recO_eq (j : Fin 2048) (o : Fin 64) : recO e b hb LG (ix2 j o) = deconv 128 G W B o (2 * j + 1) := by
  rw [deconv_odd 128 G W B o rfl]
  pointwise [recO, k0_pay79]
  refine add_pair ?_ ?_ (hB o) <;>
    exact Finset.sum_congr rfl fun i _ => congrArg₂ (· * ·) (ldg_eq hG _ _ _ _) ((hW _ _ _).trans
      (congrArg₂ (fun i k => W i o k) (by dsimp only [Fin.val_zero, Fin.val_one]; omega) (by dsimp only [Fin.val_zero, Fin.val_one]; omega)))

end

set_option backward.isDefEq.respectTransparency false in
/-- The output's buffer holds the reconstruction. -/
theorem os_rows {D : ℕ → ℕ → EReal} {LG : Pieces S4x2056x128} {L : Pieces S4x4096x64}
    (hE : ∀ (j : Fin 2048) (o : Fin 64), recE e b hb LG (ix2 j o) = D o (2 * j))
    (hO : ∀ (j : Fin 2048) (o : Fin 64), recO e b hb LG (ix2 j o) = D o (2 * j + 1)) :
    RowsOn b (fun t c => D c t) (fun _ => True) (os e b hb LG L) := by
  refine RowsOn.box (Q := fun k => k % 2 = 0 ∧ k < 4096) (RowsOn.box (Q := fun _ => False) RowsOn.none
    (fun j l => ?_) (fun k _ h => .inl ⟨k / 2, by omega, by omega⟩)) (fun j l => ?_) (fun k hk _ => ?_)
  · pointwise [k0_pay83]
    exact (hE j l).trans (congrArg (D l) (by omega))
  · pointwise [k0_pay84]
    exact (hO j l).trans (congrArg (D l) (by omega))
  · by_cases h : k % 2 = 0
    · exact .inr ⟨h, hk⟩
    · exact .inl ⟨k / 2, by omega, by omega⟩

set_option backward.isDefEq.respectTransparency false in
/-- The reconstruction as it is stored into the output. -/
theorem out_eq {D : ℕ → ℕ → EReal} {LO : Pieces S4x4096x64} (hD : RowsOn b (fun t c => D c t) (fun _ => True) LO)
    (c : Fin 64) (t : Fin 4096) : out e b hb LO (ix3 (0 : Fin 1) c t) = D c t := by
  pointwise [out, k0_pay85]
  exact (hD.uload e.mo t c trivial).trans (congrArg (D c) (Nat.zero_add _))

set_option backward.isDefEq.respectTransparency false in
/-- The squared error of the reconstruction added to `a`. -/
theorem rerr_eq {X D : ℕ → ℕ → EReal} {LX : Pieces S4x4104x64} {LG : Pieces S4x2056x128} (a : FVec Ideal S1x1 .f32)
    (hX : RowsOn b (fun p c => pd X c p) (fun _ => True) LX)
    (hE : ∀ (j : Fin 2048) (o : Fin 64), recE e b hb LG (ix2 j o) = D o (2 * j))
    (hO : ∀ (j : Fin 2048) (o : Fin 64), recO e b hb LG (ix2 j o) = D o (2 * j + 1)) :
    rerr e b hb LX LG a (ix2 (0 : Fin 1) (0 : Fin 1)) = a (ix2 (0 : Fin 1) (0 : Fin 1)) +
      ((∑ j : Fin 2048, ∑ o : Fin 64, (D o (2 * j) - X o (2 * j)) * (D o (2 * j) - X o (2 * j))) +
        ∑ j : Fin 2048, ∑ o : Fin 64, (D o (2 * j + 1) - X o (2 * j + 1)) * (D o (2 * j + 1) - X o (2 * j + 1))) := by
  have hl : ∀ (k : ℕ) (hk : k + 1 < 4) (j : Fin 2048) (i : Fin 64), ldx e b hb LX (k + 1) hk (ix3 (0 : Fin 1) j i) = X i (2 * j + k) :=
    fun k hk j i => (hX.load e.mx j i trivial).trans (pd_pos X i (by omega))
  pointwise [rerr, k0_pay82, k0_pay81, k0_pay80]
  refine congrArg (a (ix2 (0 : Fin 1) (0 : Fin 1)) + ·) (congrArg₂ (· + ·)
    (Finset.sum_congr rfl fun j _ => Finset.sum_congr rfl fun o _ => ?_)
    (Finset.sum_congr rfl fun j _ => Finset.sum_congr rfl fun o _ => ?_))
  · have h := congrArg₂ (fun x y : EReal => x - y) (hE j o) (hl 0 (by omega) j o)
    exact congrArg₂ (fun x y : EReal => x * y) h h
  · have h := congrArg₂ (fun x y : EReal => x - y) (hO j o) (hl 1 (by omega) j o)
    exact congrArg₂ (fun x y : EReal => x * y) h h

end Cert.Proof.Batch
-- ==== Proof.Model.lean ====
/-
  The autoencoder on one sequence, over the extended reals: two convolutions, the quantiser, two transposed
  convolutions, and the two squared errors.
-/
module

public import proofs.«01_k».proof.Proof.Spec

@[expose] public section

noncomputable section

namespace Cert.Proof.Spec

/-- The weights: of the encoder, output channel first; of the decoder, input channel first. -/
structure Weights where
  w1 : ℕ → ℕ → ℕ → EReal
  b1 : ℕ → EReal
  w2 : ℕ → ℕ → ℕ → EReal
  b2 : ℕ → EReal
  cb : ℕ → ℕ → EReal
  w3 : ℕ → ℕ → ℕ → EReal
  b3 : ℕ → EReal
  w4 : ℕ → ℕ → ℕ → EReal
  b4 : ℕ → EReal

variable (P : Weights) (X : ℕ → ℕ → EReal)

/-- The first convolution of the sequence `X`. -/
def Weights.hidden : ℕ → ℕ → EReal := conv 64 2048 X P.w1 P.b1

/-- The latent. -/
def Weights.latent : ℕ → ℕ → EReal := conv 128 1024 (P.hidden X) P.w2 P.b2

/-- The first transposed convolution of the quantised latent. -/
def Weights.expand : ℕ → ℕ → EReal := dconv 64 2048 (unrow (quant (P.latent X) P.cb)) P.w3 P.b3

/-- The reconstruction. -/
def Weights.recon : ℕ → ℕ → EReal := deconv 128 (P.expand X) P.w4 P.b4

/-- The squared error of the quantiser. -/
def Weights.quantErr : EReal :=
  ∑ r : Fin 1024, ∑ l : Fin 64, (quant (P.latent X) P.cb r l - row (P.latent X) r l) * (quant (P.latent X) P.cb r l - row (P.latent X) r l)

/-- The squared error of the reconstruction, even and odd steps apart. -/
def Weights.reconErr : EReal :=
  (∑ j : Fin 2048, ∑ o : Fin 64, (P.recon X o (2 * j) - X o (2 * j)) * (P.recon X o (2 * j) - X o (2 * j))) +
    ∑ j : Fin 2048, ∑ o : Fin 64, (P.recon X o (2 * j + 1) - X o (2 * j + 1)) * (P.recon X o (2 * j + 1) - X o (2 * j + 1))

end Cert.Proof.Spec

end
-- ==== Proof.BatchAll.lean ====
/-
  One grid step's stores as values: the reconstructions of its four batches, and the sums of their squared errors.
-/
module

public import proofs.«01_k».proof.Proof.BatchRun
public import proofs.«01_k».proof.Proof.BatchVq
public import proofs.«01_k».proof.Proof.BatchDec
public import proofs.«01_k».proof.Proof.Model

@[expose] public section

set_option maxRecDepth 16384

noncomputable section

namespace Cert.Proof.Batch

open Cert.KernelIdeal Cert.KernelIdeal.Gen Cert.Proof.Spec
open Idealize.ShloMosaic Idealize.ShloMosaic.TcCoe Idealize.SL.Sem

/-- The run's weights are `P`'s, as the host lays them out. -/
structure Holds (e : Env) (P : Weights) : Prop where
  w1 : ∀ (a : Fin 2) (i : Fin 128) (o : Fin 128), e.w1 (ix3 a i o) = P.w1 o (i % 64) (2 * a + i / 64)
  b1 : ∀ o : Fin 128, e.b1 (ix2 (0 : Fin 1) o) = P.b1 o
  w2 : ∀ (a : Fin 2) (i : Fin 256) (o : Fin 64), e.w2 (ix3 a i o) = P.w2 o (i % 128) (2 * a + i / 128)
  b2 : ∀ o : Fin 64, e.b2 (ix2 (0 : Fin 1) o) = P.b2 o
  cb : ∀ (k : Fin 512) (l : Fin 64), e.cb (ix2 k l) = P.cb k l
  w3 : ∀ (a : Fin 2) (i : Fin 128) (o : Fin 128), e.w3 (ix3 a i o) = P.w3 (i % 64) o (1 - a + 2 * (i / 64))
  b3 : ∀ o : Fin 128, e.b3 (ix2 (0 : Fin 1) o) = P.b3 o
  w4 : ∀ (a : Fin 2) (i : Fin 256) (o : Fin 64), e.w4 (ix3 a i o) = P.w4 (i % 128) o (1 - a + 2 * (i / 128))
  b4 : ∀ o : Fin 64, e.b4 (ix2 (0 : Fin 1) o) = P.b4 o

section

variable {e : Env} {P : Weights} {b : ℕ} {hb : b < 4} {X : ℕ → ℕ → EReal} {z : Vec Ideal S1x64x4096 .f32}
  {LX : Pieces S4x4104x64} {LH : Pieces S4x2056x128} {LF LQ : Pieces S4x1024x64} {LP : Pieces S4x1032x64}
  {LG : Pieces S4x2056x128} {LO : Pieces S4x4096x64}

/-- One batch: what it stores into the output, and what it adds to the two sums. -/
theorem IsBatch.values (h : IsBatch e b hb z LX LH LF LQ LP LG LO) (hP : Holds e P)
    (hz : ∀ (c : Fin 64) (t : Fin 4096), z (ix3 (0 : Fin 1) c t) = X c t) (hz0 : ∀ c t, 4096 ≤ t → X c t = 0) :
    (∀ (c : Fin 64) (t : Fin 4096), out e b hb LO (ix3 (0 : Fin 1) c t) = P.recon X c t) ∧
    (∀ a : FVec Ideal S1x1 .f32, vq e b hb LF a (ix2 (0 : Fin 1) (0 : Fin 1)) = a (ix2 (0 : Fin 1) (0 : Fin 1)) + P.quantErr X) ∧
    ∀ a : FVec Ideal S1x1 .f32, rerr e b hb LX LG a (ix2 (0 : Fin 1) (0 : Fin 1)) = a (ix2 (0 : Fin 1) (0 : Fin 1)) + P.reconErr X := by
  obtain ⟨⟨_, hx⟩, ⟨_, hh⟩, ⟨_, hf⟩, ⟨_, hq⟩, ⟨_, hp⟩, ⟨_, hg⟩, ⟨_, ho⟩⟩ := h
  have rx : RowsOn b (fun p c => pd X c p) (fun _ => True) LX := hx ▸ xs_rows hz hz0
  have rh : RowsOn b (fun p c => pd (P.hidden X) c p) (fun _ => True) LH :=
    hh ▸ hs_rows (hid_eq (hb := hb) rx hP.w1 hP.b1) fun c t ht => if_neg (not_lt.mpr ht)
  have rf : RowsOn b (row (P.latent X)) (fun _ => True) LF := hf ▸ fs_rows (lat_eq (hb := hb) rh hP.w2 hP.b2)
  have rq : RowsOn b (quant (P.latent X) P.cb) (fun _ => True) LQ := hq ▸ qs_rows (hb := hb) hP.cb rf
  have rp : RowsOn b (fun p c => pd (unrow (quant (P.latent X) P.cb)) c p) (fun _ => True) LP := hp ▸ ps_rows (hb := hb) rq
  have rg : RowsOn b (fun p c => pd (P.expand X) c p) (fun _ => True) LG := hg ▸ gs_rows (hb := hb) rp hP.w3 hP.b3
  have hE := recE_eq (hb := hb) rg hP.w4 hP.b4
  have hO := recO_eq (hb := hb) rg hP.w4 hP.b4
  have ro : RowsOn b (fun t c => P.recon X c t) (fun _ => True) LO := ho ▸ os_rows hE hO
  exact ⟨out_eq ro, vq_eq hP.cb rf, fun a => rerr_eq a rx hE hO⟩

end

/-- A store into another batch leaves the rows of this one. -/
theorem RowsOn.skip {r m b n b' o : ℕ} {hb : b' < 4} {ho : o + n ≤ r} {G : ℕ → ℕ → EReal} {Q : ℕ → Prop}
    {L : Pieces ⟨3, ![4, r, m]⟩} {p : (⟨3, ![1, n, m]⟩ : Shape).Idx → EReal} (hne : b ≠ b') (hL : RowsOn b G Q L) :
    RowsOn b G Q (⟨Batch.ubox n b' o hb ho, p⟩ :: L) := by
  intro y hy hQ
  refine (View.canon_cons_of_not_mem (Val := Elt Ideal) (e := .f32) ⟨Batch.ubox n b' o hb ho, p⟩ L fun hm => hne ?_).trans (hL y hy hQ)
  have hm' : y ∈ (Batch.ubox n b' o hb ho : Rect ⟨3, ![4, r, m]⟩).set := hm
  have h := (Rect.mem_set_unit.mp hm') 0
  have h1 : b' ≤ (y 0).val := h.1
  have h2 : (y 0).val < b' + 1 := h.2
  omega

/-- A batch's own store into the output block. -/
theorem out_rows {b : ℕ} {hb : b < 4} {ho : 0 + 64 ≤ 64} {D : ℕ → ℕ → EReal} {L : Pieces S4x64x4096} {p : Vec Ideal S1x64x4096 .f32}
    (hp : ∀ (c : Fin 64) (t : Fin 4096), p (ix3 (0 : Fin 1) c t) = D c t) :
    RowsOn b D (fun _ => True) (⟨ubox 64 b 0 hb ho, p⟩ :: L) :=
  RowsOn.ubox (Q := fun _ => False) RowsOn.none (fun j l => (hp j l).trans (congrArg (D · l) (by omega)))
    fun k hk _ => .inl (by omega)

/-- The four stores into the output block. -/
theorem four_rows {D : ℕ → ℕ → ℕ → EReal} {p0 p1 p2 p3 : Vec Ideal S1x64x4096 .f32}
    (h0 : ∀ (c : Fin 64) (t : Fin 4096), p0 (ix3 (0 : Fin 1) c t) = D 0 c t)
    (h1 : ∀ (c : Fin 64) (t : Fin 4096), p1 (ix3 (0 : Fin 1) c t) = D 1 c t)
    (h2 : ∀ (c : Fin 64) (t : Fin 4096), p2 (ix3 (0 : Fin 1) c t) = D 2 c t)
    (h3 : ∀ (c : Fin 64) (t : Fin 4096), p3 (ix3 (0 : Fin 1) c t) = D 3 c t) (b : Fin 4) :
    RowsOn (r := 64) (m := 4096) b (D b) (fun _ => True)
      [⟨ubox 64 3 0 (by omega) (by omega), p3⟩, ⟨ubox 64 2 0 (by omega) (by omega), p2⟩,
        ⟨ubox 64 1 0 (by omega) (by omega), p1⟩, ⟨ubox 64 0 0 (by omega) (by omega), p0⟩] :=
  match b with
  | 0 => RowsOn.skip (b := 0) (by omega) (RowsOn.skip (by omega) (RowsOn.skip (by omega) (out_rows (D := D 0) h0)))
  | 1 => RowsOn.skip (b := 1) (by omega) (RowsOn.skip (by omega) (out_rows (D := D 1) h1))
  | 2 => RowsOn.skip (b := 2) (by omega) (out_rows (D := D 2) h2)
  | 3 => out_rows (D := D 3) h3

section

variable {e : Env} {P : Weights} {X : ℕ → ℕ → ℕ → EReal} {z : (b : ℕ) → b < 4 → Vec Ideal S1x64x4096 .f32}
  {p11 p12 : Vec Ideal S1x1 .f32} {L10 : Pieces S4x64x4096} {L11 L12 : Pieces S1x1}

/-- A store of the whole of a single entry. -/
theorem canon_one {p : Vec Ideal S1x1 .f32} {L : Pieces S1x1} :
    View.canon (Val := Elt Ideal) (⟨Rect.unit ![0, 0] ![1, 1] inb_S1x1_S1x1_0_0, p⟩ :: L) (ix2 (0 : Fin 1) (0 : Fin 1)) = p (ix2 (0 : Fin 1) (0 : Fin 1)) := by
  have h := View.canon_cons_emb (Val := Elt Ideal) (e := .f32) (Rect.unit (s := S1x1) ![0, 0] ![1, 1] inb_S1x1_S1x1_0_0) p L (ix2 (0 : Fin 1) (0 : Fin 1))
  refine Eq.trans (congrArg _ ?_) h
  funext a
  match a with
  | 0 => exact Subsingleton.elim (α := Fin 1) _ _
  | 1 => exact Subsingleton.elim (α := Fin 1) _ _

set_option backward.isDefEq.respectTransparency false in
/-- One grid step: the output block, and the two sums. -/
theorem IsRun.values (h : IsRun e z p11 p12 L10 L11 L12) (hP : Holds e P)
    (hz : ∀ (b : ℕ) (hb : b < 4) (c : Fin 64) (t : Fin 4096), z b hb (ix3 (0 : Fin 1) c t) = X b c t)
    (hz0 : ∀ b c t, 4096 ≤ t → X b c t = 0) :
    (∀ (b : Fin 4) (c : Fin 64) (t : Fin 4096), View.canon (Val := Elt Ideal) L10 (ix3 b c t) = P.recon (X b) c t) ∧
    View.canon (Val := Elt Ideal) L11 (ix2 (0 : Fin 1) (0 : Fin 1)) = p11 (ix2 (0 : Fin 1) (0 : Fin 1)) + ∑ b : Fin 4, P.quantErr (X b) ∧
    View.canon (Val := Elt Ideal) L12 (ix2 (0 : Fin 1) (0 : Fin 1)) = p12 (ix2 (0 : Fin 1) (0 : Fin 1)) + ∑ b : Fin 4, P.reconErr (X b) := by
  obtain ⟨LX, LH, LF, LQ, LP, LG, LO, hB, rfl, ⟨K, rfl⟩, ⟨K', rfl⟩⟩ := h
  have v := fun b : Fin 4 => (hB b).values hP (hz b b.isLt) (hz0 b)
  refine ⟨fun b c t => four_rows (D := fun b => P.recon (X b)) (v 0).1 (v 1).1 (v 2).1 (v 3).1 b _ rfl trivial, ?_, ?_⟩
  · rw [canon_one, Fin.sum_univ_four]
    pointwise [k0_pay5]
    refine congrArg (p11 (ix2 (0 : Fin 1) (0 : Fin 1)) + ·) ?_
    refine ((v 3).2.1 _).trans (congrArg (· + P.quantErr (X 3)) (((v 2).2.1 _).trans (congrArg (· + P.quantErr (X 2))
      (((v 1).2.1 _).trans (congrArg (· + P.quantErr (X 1)) (((v 0).2.1 _).trans ?_))))))
    pointwise [k0_pay16]
  · rw [canon_one, Fin.sum_univ_four]
    pointwise [k0_pay6]
    refine congrArg (p12 (ix2 (0 : Fin 1) (0 : Fin 1)) + ·) ?_
    refine ((v 3).2.2 _).trans (congrArg (· + P.reconErr (X 3)) (((v 2).2.2 _).trans (congrArg (· + P.reconErr (X 2))
      (((v 1).2.2 _).trans (congrArg (· + P.reconErr (X 1)) (((v 0).2.2 _).trans ?_))))))
    pointwise [k0_pay17]

end

end Cert.Proof.Batch
-- ==== Proof.BatchRunA.lean ====
/-
  The body's run at the first grid step is `IsRun`: the batch of `Batch`, four times.
-/
module

public import proofs.«01_k».proof.Proof.BatchRun
public import proofs.«01_k».proof.Proof.Gen.KernelIdeal.Frame.RunA

@[expose] public section

set_option maxRecDepth 16384

noncomputable section

namespace Cert.Proof.Batch

open Cert.KernelIdeal Cert.KernelIdeal.Gen
open Idealize.ShloMosaic Idealize.ShloMosaic.TcCoe Idealize.SL.Sem

section

variable (c : Dev nD) (i : grid0.Coords)
  (arg1 : Memref sig .tc .vmem S4x64x4096 .f32) (harg1 : arg1.IsWhole)
  (arg2 : Memref sig .tc .vmem S2x128x128 .f32) (harg2 : arg2.IsWhole)
  (arg3 : Memref sig .tc .vmem S1x128 .f32) (harg3 : arg3.IsWhole)
  (arg4 : Memref sig .tc .vmem S2x256x64 .f32) (harg4 : arg4.IsWhole)
  (arg5 : Memref sig .tc .vmem S1x64 .f32) (harg5 : arg5.IsWhole)
  (arg6 : Memref sig .tc .vmem S512x64 .f32) (harg6 : arg6.IsWhole)
  (arg7 : Memref sig .tc .vmem S2x128x128 .f32) (harg7 : arg7.IsWhole)
  (arg8 : Memref sig .tc .vmem S1x128 .f32) (harg8 : arg8.IsWhole)
  (arg9 : Memref sig .tc .vmem S2x256x64 .f32) (harg9 : arg9.IsWhole)
  (arg10 : Memref sig .tc .vmem S1x64 .f32) (harg10 : arg10.IsWhole)
  (arg11 : Memref sig .tc .vmem S4x64x4096 .f32) (harg11 : arg11.IsWhole)
  (arg12 : Memref sig .tc .vmem S1x1 .f32) (harg12 : arg12.IsWhole)
  (arg13 : Memref sig .tc .vmem S1x1 .f32) (harg13 : arg13.IsWhole)
  (arg14 : Memref sig .tc .vmem S4x4104x64 .f32) (harg14 : arg14.IsWhole)
  (arg15 : Memref sig .tc .vmem S4x2056x128 .f32) (harg15 : arg15.IsWhole)
  (arg16 : Memref sig .tc .vmem S4x1024x64 .f32) (harg16 : arg16.IsWhole)
  (arg17 : Memref sig .tc .vmem S4x1024x64 .f32) (harg17 : arg17.IsWhole)
  (arg18 : Memref sig .tc .vmem S4x1032x64 .f32) (harg18 : arg18.IsWhole)
  (arg19 : Memref sig .tc .vmem S4x2056x128 .f32) (harg19 : arg19.IsWhole)
  (arg20 : Memref sig .tc .vmem S4x4096x64 .f32) (harg20 : arg20.IsWhole)
  (x0 : Vec Ideal S4x64x4096 .f32)
  (x1 : Vec Ideal S2x128x128 .f32)
  (x2 : Vec Ideal S1x128 .f32)
  (x3 : Vec Ideal S2x256x64 .f32)
  (x4 : Vec Ideal S1x64 .f32)
  (x5 : Vec Ideal S512x64 .f32)
  (x6 : Vec Ideal S2x128x128 .f32)
  (x7 : Vec Ideal S1x128 .f32)
  (x8 : Vec Ideal S2x256x64 .f32)
  (x9 : Vec Ideal S1x64 .f32)

set_option maxHeartbeats 4000000 in
set_option backward.isDefEq.respectTransparency false in
/-- The stores of batch 0 at the first grid step. -/
theorem batch0_A : IsBatch (env arg2 harg2 arg3 harg3 arg4 harg4 arg5 harg5 arg6 harg6 arg7 harg7 arg8 harg8 arg9 harg9 arg10 harg10 arg14 arg15 arg16 arg17 arg18 arg19 arg20 x1 x2 x3 x4 x5 x6 x7 x8 x9) 0 (by omega) (inp arg1 harg1 x0 0 (by omega))
    (kernelRun0_A.sl.HS0_3 (F := Ideal) c arg1 harg1 x0)
    (kernelRun0_A.sl.HS1_3 (F := Ideal) c arg1 harg1 arg2 harg2 arg3 harg3 arg14 x0 x1 x2)
    (kernelRun0_A.sl.HS2_16 (F := Ideal) c arg1 harg1 arg2 harg2 arg3 harg3 arg4 harg4 arg5 harg5 arg14 arg15 x0 x1 x2 x3 x4)
    (kernelRun0_A.sl.HS3_1 (F := Ideal) c arg1 harg1 arg2 harg2 arg3 harg3 arg4 harg4 arg5 harg5 arg6 harg6 arg14 arg15 arg16 x0 x1 x2 x3 x4 x5)
    (kernelRun0_A.sl.HS4_18 (F := Ideal) c arg1 harg1 arg2 harg2 arg3 harg3 arg4 harg4 arg5 harg5 arg6 harg6 arg14 arg15 arg16 arg17 x0 x1 x2 x3 x4 x5)
    (kernelRun0_A.sl.HS5_4 (F := Ideal) c arg1 harg1 arg2 harg2 arg3 harg3 arg4 harg4 arg5 harg5 arg6 harg6 arg7 harg7 arg8 harg8 arg14 arg15 arg16 arg17 arg18 x0 x1 x2 x3 x4 x5 x6 x7)
    (kernelRun0_A.sl.HS6_2 (F := Ideal) c arg1 harg1 arg2 harg2 arg3 harg3 arg4 harg4 arg5 harg5 arg6 harg6 arg7 harg7 arg8 harg8 arg9 harg9 arg10 harg10 arg14 arg15 arg16 arg17 arg18 arg19 x0 x1 x2 x3 x4 x5 x6 x7 x8 x9) where
  x := ⟨_, by exact rfl⟩
  h := ⟨_, by exact rfl⟩
  f := ⟨_, by exact rfl⟩
  q := ⟨_, by exact rfl⟩
  p := ⟨_, by exact rfl⟩
  g := ⟨_, by exact rfl⟩
  o := ⟨_, by exact rfl⟩

set_option maxHeartbeats 4000000 in
set_option backward.isDefEq.respectTransparency false in
/-- The stores of batch 1 at the first grid step. -/
theorem batch1_A : IsBatch (env arg2 harg2 arg3 harg3 arg4 harg4 arg5 harg5 arg6 harg6 arg7 harg7 arg8 harg8 arg9 harg9 arg10 harg10 arg14 arg15 arg16 arg17 arg18 arg19 arg20 x1 x2 x3 x4 x5 x6 x7 x8 x9) 1 (by omega) (inp arg1 harg1 x0 1 (by omega))
    (kernelRun0_A.sl.HS0_6 (F := Ideal) c arg1 harg1 x0)
    (kernelRun0_A.sl.HS1_6 (F := Ideal) c arg1 harg1 arg2 harg2 arg3 harg3 arg14 x0 x1 x2)
    (kernelRun0_A.sl.HS2_32 (F := Ideal) c arg1 harg1 arg2 harg2 arg3 harg3 arg4 harg4 arg5 harg5 arg14 arg15 x0 x1 x2 x3 x4)
    (kernelRun0_A.sl.HS3_2 (F := Ideal) c arg1 harg1 arg2 harg2 arg3 harg3 arg4 harg4 arg5 harg5 arg6 harg6 arg14 arg15 arg16 x0 x1 x2 x3 x4 x5)
    (kernelRun0_A.sl.HS4_36 (F := Ideal) c arg1 harg1 arg2 harg2 arg3 harg3 arg4 harg4 arg5 harg5 arg6 harg6 arg14 arg15 arg16 arg17 x0 x1 x2 x3 x4 x5)
    (kernelRun0_A.sl.HS5_8 (F := Ideal) c arg1 harg1 arg2 harg2 arg3 harg3 arg4 harg4 arg5 harg5 arg6 harg6 arg7 harg7 arg8 harg8 arg14 arg15 arg16 arg17 arg18 x0 x1 x2 x3 x4 x5 x6 x7)
    (kernelRun0_A.sl.HS6_4 (F := Ideal) c arg1 harg1 arg2 harg2 arg3 harg3 arg4 harg4 arg5 harg5 arg6 harg6 arg7 harg7 arg8 harg8 arg9 harg9 arg10 harg10 arg14 arg15 arg16 arg17 arg18 arg19 x0 x1 x2 x3 x4 x5 x6 x7 x8 x9) where
  x := ⟨_, by exact rfl⟩
  h := ⟨_, by exact rfl⟩
  f := ⟨_, by exact rfl⟩
  q := ⟨_, by exact rfl⟩
  p := ⟨_, by exact rfl⟩
  g := ⟨_, by exact rfl⟩
  o := ⟨_, by exact rfl⟩

set_option maxHeartbeats 4000000 in
set_option backward.isDefEq.respectTransparency false in
/-- The stores of batch 2 at the first grid step. -/
theorem batch2_A : IsBatch (env arg2 harg2 arg3 harg3 arg4 harg4 arg5 harg5 arg6 harg6 arg7 harg7 arg8 harg8 arg9 harg9 arg10 harg10 arg14 arg15 arg16 arg17 arg18 arg19 arg20 x1 x2 x3 x4 x5 x6 x7 x8 x9) 2 (by omega) (inp arg1 harg1 x0 2 (by omega))
    (kernelRun0_A.sl.HS0_9 (F := Ideal) c arg1 harg1 x0)
    (kernelRun0_A.sl.HS1_9 (F := Ideal) c arg1 harg1 arg2 harg2 arg3 harg3 arg14 x0 x1 x2)
    (kernelRun0_A.sl.HS2_48 (F := Ideal) c arg1 harg1 arg2 harg2 arg3 harg3 arg4 harg4 arg5 harg5 arg14 arg15 x0 x1 x2 x3 x4)
    (kernelRun0_A.sl.HS3_3 (F := Ideal) c arg1 harg1 arg2 harg2 arg3 harg3 arg4 harg4 arg5 harg5 arg6 harg6 arg14 arg15 arg16 x0 x1 x2 x3 x4 x5)
    (kernelRun0_A.sl.HS4_54 (F := Ideal) c arg1 harg1 arg2 harg2 arg3 harg3 arg4 harg4 arg5 harg5 arg6 harg6 arg14 arg15 arg16 arg17 x0 x1 x2 x3 x4 x5)
    (kernelRun0_A.sl.HS5_12 (F := Ideal) c arg1 harg1 arg2 harg2 arg3 harg3 arg4 harg4 arg5 harg5 arg6 harg6 arg7 harg7 arg8 harg8 arg14 arg15 arg16 arg17 arg18 x0 x1 x2 x3 x4 x5 x6 x7)
    (kernelRun0_A.sl.HS6_6 (F := Ideal) c arg1 harg1 arg2 harg2 arg3 harg3 arg4 harg4 arg5 harg5 arg6 harg6 arg7 harg7 arg8 harg8 arg9 harg9 arg10 harg10 arg14 arg15 arg16 arg17 arg18 arg19 x0 x1 x2 x3 x4 x5 x6 x7 x8 x9) where
  x := ⟨_, by exact rfl⟩
  h := ⟨_, by exact rfl⟩
  f := ⟨_, by exact rfl⟩
  q := ⟨_, by exact rfl⟩
  p := ⟨_, by exact rfl⟩
  g := ⟨_, by exact rfl⟩
  o := ⟨_, by exact rfl⟩

set_option maxHeartbeats 4000000 in
set_option backward.isDefEq.respectTransparency false in
/-- The stores of batch 3 at the first grid step. -/
theorem batch3_A : IsBatch (env arg2 harg2 arg3 harg3 arg4 harg4 arg5 harg5 arg6 harg6 arg7 harg7 arg8 harg8 arg9 harg9 arg10 harg10 arg14 arg15 arg16 arg17 arg18 arg19 arg20 x1 x2 x3 x4 x5 x6 x7 x8 x9) 3 (by omega) (inp arg1 harg1 x0 3 (by omega))
    (kernelRun0_A.sl.HS0_12 (F := Ideal) c arg1 harg1 x0)
    (kernelRun0_A.sl.HS1_12 (F := Ideal) c arg1 harg1 arg2 harg2 arg3 harg3 arg14 x0 x1 x2)
    (kernelRun0_A.sl.HS2_64 (F := Ideal) c arg1 harg1 arg2 harg2 arg3 harg3 arg4 harg4 arg5 harg5 arg14 arg15 x0 x1 x2 x3 x4)
    (kernelRun0_A.sl.HS3_4 (F := Ideal) c arg1 harg1 arg2 harg2 arg3 harg3 arg4 harg4 arg5 harg5 arg6 harg6 arg14 arg15 arg16 x0 x1 x2 x3 x4 x5)
    (kernelRun0_A.sl.HS4_72 (F := Ideal) c arg1 harg1 arg2 harg2 arg3 harg3 arg4 harg4 arg5 harg5 arg6 harg6 arg14 arg15 arg16 arg17 x0 x1 x2 x3 x4 x5)
    (kernelRun0_A.sl.HS5_16 (F := Ideal) c arg1 harg1 arg2 harg2 arg3 harg3 arg4 harg4 arg5 harg5 arg6 harg6 arg7 harg7 arg8 harg8 arg14 arg15 arg16 arg17 arg18 x0 x1 x2 x3 x4 x5 x6 x7)
    (kernelRun0_A.sl.HS6_8 (F := Ideal) c arg1 harg1 arg2 harg2 arg3 harg3 arg4 harg4 arg5 harg5 arg6 harg6 arg7 harg7 arg8 harg8 arg9 harg9 arg10 harg10 arg14 arg15 arg16 arg17 arg18 arg19 x0 x1 x2 x3 x4 x5 x6 x7 x8 x9) where
  x := ⟨_, by exact rfl⟩
  h := ⟨_, by exact rfl⟩
  f := ⟨_, by exact rfl⟩
  q := ⟨_, by exact rfl⟩
  p := ⟨_, by exact rfl⟩
  g := ⟨_, by exact rfl⟩
  o := ⟨_, by exact rfl⟩

set_option maxHeartbeats 4000000 in
set_option backward.isDefEq.respectTransparency false in
/-- The run at the first grid step. -/
theorem run_A (hc0 : cond0_0 i) : IsRun (env arg2 harg2 arg3 harg3 arg4 harg4 arg5 harg5 arg6 harg6 arg7 harg7 arg8 harg8 arg9 harg9 arg10 harg10 arg14 arg15 arg16 arg17 arg18 arg19 arg20 x1 x2 x3 x4 x5 x6 x7 x8 x9) (inp arg1 harg1 x0)
    (arg12.view.readCov [⟨Rect.unit ![0, 0] ![1, 1] inb_S1x1_S1x1_0_0, k0_pay3 (F := Ideal)⟩] (Rect.unit ![0, 0] ![1, 1] inb_S1x1_S1x1_0_0).toLoadRect)
    (arg13.view.readCov [⟨Rect.unit ![0, 0] ![1, 1] inb_S1x1_S1x1_0_0, k0_pay4 (F := Ideal)⟩] (Rect.unit ![0, 0] ![1, 1] inb_S1x1_S1x1_0_0).toLoadRect)
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9).1
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9).2.1
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9).2.2.1 := by
  refine ⟨![(kernelRun0_A.sl.HS0_3 (F := Ideal) c arg1 harg1 x0), (kernelRun0_A.sl.HS0_6 (F := Ideal) c arg1 harg1 x0), (kernelRun0_A.sl.HS0_9 (F := Ideal) c arg1 harg1 x0), (kernelRun0_A.sl.HS0_12 (F := Ideal) c arg1 harg1 x0)],
    ![(kernelRun0_A.sl.HS1_3 (F := Ideal) c arg1 harg1 arg2 harg2 arg3 harg3 arg14 x0 x1 x2), (kernelRun0_A.sl.HS1_6 (F := Ideal) c arg1 harg1 arg2 harg2 arg3 harg3 arg14 x0 x1 x2), (kernelRun0_A.sl.HS1_9 (F := Ideal) c arg1 harg1 arg2 harg2 arg3 harg3 arg14 x0 x1 x2), (kernelRun0_A.sl.HS1_12 (F := Ideal) c arg1 harg1 arg2 harg2 arg3 harg3 arg14 x0 x1 x2)],
    ![(kernelRun0_A.sl.HS2_16 (F := Ideal) c arg1 harg1 arg2 harg2 arg3 harg3 arg4 harg4 arg5 harg5 arg14 arg15 x0 x1 x2 x3 x4), (kernelRun0_A.sl.HS2_32 (F := Ideal) c arg1 harg1 arg2 harg2 arg3 harg3 arg4 harg4 arg5 harg5 arg14 arg15 x0 x1 x2 x3 x4), (kernelRun0_A.sl.HS2_48 (F := Ideal) c arg1 harg1 arg2 harg2 arg3 harg3 arg4 harg4 arg5 harg5 arg14 arg15 x0 x1 x2 x3 x4), (kernelRun0_A.sl.HS2_64 (F := Ideal) c arg1 harg1 arg2 harg2 arg3 harg3 arg4 harg4 arg5 harg5 arg14 arg15 x0 x1 x2 x3 x4)],
    ![(kernelRun0_A.sl.HS3_1 (F := Ideal) c arg1 harg1 arg2 harg2 arg3 harg3 arg4 harg4 arg5 harg5 arg6 harg6 arg14 arg15 arg16 x0 x1 x2 x3 x4 x5), (kernelRun0_A.sl.HS3_2 (F := Ideal) c arg1 harg1 arg2 harg2 arg3 harg3 arg4 harg4 arg5 harg5 arg6 harg6 arg14 arg15 arg16 x0 x1 x2 x3 x4 x5), (kernelRun0_A.sl.HS3_3 (F := Ideal) c arg1 harg1 arg2 harg2 arg3 harg3 arg4 harg4 arg5 harg5 arg6 harg6 arg14 arg15 arg16 x0 x1 x2 x3 x4 x5), (kernelRun0_A.sl.HS3_4 (F := Ideal) c arg1 harg1 arg2 harg2 arg3 harg3 arg4 harg4 arg5 harg5 arg6 harg6 arg14 arg15 arg16 x0 x1 x2 x3 x4 x5)],
    ![(kernelRun0_A.sl.HS4_18 (F := Ideal) c arg1 harg1 arg2 harg2 arg3 harg3 arg4 harg4 arg5 harg5 arg6 harg6 arg14 arg15 arg16 arg17 x0 x1 x2 x3 x4 x5), (kernelRun0_A.sl.HS4_36 (F := Ideal) c arg1 harg1 arg2 harg2 arg3 harg3 arg4 harg4 arg5 harg5 arg6 harg6 arg14 arg15 arg16 arg17 x0 x1 x2 x3 x4 x5), (kernelRun0_A.sl.HS4_54 (F := Ideal) c arg1 harg1 arg2 harg2 arg3 harg3 arg4 harg4 arg5 harg5 arg6 harg6 arg14 arg15 arg16 arg17 x0 x1 x2 x3 x4 x5), (kernelRun0_A.sl.HS4_72 (F := Ideal) c arg1 harg1 arg2 harg2 arg3 harg3 arg4 harg4 arg5 harg5 arg6 harg6 arg14 arg15 arg16 arg17 x0 x1 x2 x3 x4 x5)],
    ![(kernelRun0_A.sl.HS5_4 (F := Ideal) c arg1 harg1 arg2 harg2 arg3 harg3 arg4 harg4 arg5 harg5 arg6 harg6 arg7 harg7 arg8 harg8 arg14 arg15 arg16 arg17 arg18 x0 x1 x2 x3 x4 x5 x6 x7), (kernelRun0_A.sl.HS5_8 (F := Ideal) c arg1 harg1 arg2 harg2 arg3 harg3 arg4 harg4 arg5 harg5 arg6 harg6 arg7 harg7 arg8 harg8 arg14 arg15 arg16 arg17 arg18 x0 x1 x2 x3 x4 x5 x6 x7), (kernelRun0_A.sl.HS5_12 (F := Ideal) c arg1 harg1 arg2 harg2 arg3 harg3 arg4 harg4 arg5 harg5 arg6 harg6 arg7 harg7 arg8 harg8 arg14 arg15 arg16 arg17 arg18 x0 x1 x2 x3 x4 x5 x6 x7), (kernelRun0_A.sl.HS5_16 (F := Ideal) c arg1 harg1 arg2 harg2 arg3 harg3 arg4 harg4 arg5 harg5 arg6 harg6 arg7 harg7 arg8 harg8 arg14 arg15 arg16 arg17 arg18 x0 x1 x2 x3 x4 x5 x6 x7)],
    ![(kernelRun0_A.sl.HS6_2 (F := Ideal) c arg1 harg1 arg2 harg2 arg3 harg3 arg4 harg4 arg5 harg5 arg6 harg6 arg7 harg7 arg8 harg8 arg9 harg9 arg10 harg10 arg14 arg15 arg16 arg17 arg18 arg19 x0 x1 x2 x3 x4 x5 x6 x7 x8 x9), (kernelRun0_A.sl.HS6_4 (F := Ideal) c arg1 harg1 arg2 harg2 arg3 harg3 arg4 harg4 arg5 harg5 arg6 harg6 arg7 harg7 arg8 harg8 arg9 harg9 arg10 harg10 arg14 arg15 arg16 arg17 arg18 arg19 x0 x1 x2 x3 x4 x5 x6 x7 x8 x9), (kernelRun0_A.sl.HS6_6 (F := Ideal) c arg1 harg1 arg2 harg2 arg3 harg3 arg4 harg4 arg5 harg5 arg6 harg6 arg7 harg7 arg8 harg8 arg9 harg9 arg10 harg10 arg14 arg15 arg16 arg17 arg18 arg19 x0 x1 x2 x3 x4 x5 x6 x7 x8 x9), (kernelRun0_A.sl.HS6_8 (F := Ideal) c arg1 harg1 arg2 harg2 arg3 harg3 arg4 harg4 arg5 harg5 arg6 harg6 arg7 harg7 arg8 harg8 arg9 harg9 arg10 harg10 arg14 arg15 arg16 arg17 arg18 arg19 x0 x1 x2 x3 x4 x5 x6 x7 x8 x9)],
    fun b => ?_, by exact rfl, ⟨_, by exact rfl⟩, ⟨_, by exact rfl⟩⟩
  match b with
  | 0 => exact batch0_A (c := c) ..
  | 1 => exact batch1_A (c := c) ..
  | 2 => exact batch2_A (c := c) ..
  | 3 => exact batch3_A (c := c) ..

end

end Cert.Proof.Batch
-- ==== Proof.BatchRunB.lean ====
/-
  The body's run at a later grid step is `IsRun`: the batch of `Batch`, four times.
-/
module

public import proofs.«01_k».proof.Proof.BatchRun
public import proofs.«01_k».proof.Proof.Gen.KernelIdeal.Frame.RunB

@[expose] public section

set_option maxRecDepth 16384

noncomputable section

namespace Cert.Proof.Batch

open Cert.KernelIdeal Cert.KernelIdeal.Gen
open Idealize.ShloMosaic Idealize.ShloMosaic.TcCoe Idealize.SL.Sem

section

variable (c : Dev nD) (i : grid0.Coords)
  (arg1 : Memref sig .tc .vmem S4x64x4096 .f32) (harg1 : arg1.IsWhole)
  (arg2 : Memref sig .tc .vmem S2x128x128 .f32) (harg2 : arg2.IsWhole)
  (arg3 : Memref sig .tc .vmem S1x128 .f32) (harg3 : arg3.IsWhole)
  (arg4 : Memref sig .tc .vmem S2x256x64 .f32) (harg4 : arg4.IsWhole)
  (arg5 : Memref sig .tc .vmem S1x64 .f32) (harg5 : arg5.IsWhole)
  (arg6 : Memref sig .tc .vmem S512x64 .f32) (harg6 : arg6.IsWhole)
  (arg7 : Memref sig .tc .vmem S2x128x128 .f32) (harg7 : arg7.IsWhole)
  (arg8 : Memref sig .tc .vmem S1x128 .f32) (harg8 : arg8.IsWhole)
  (arg9 : Memref sig .tc .vmem S2x256x64 .f32) (harg9 : arg9.IsWhole)
  (arg10 : Memref sig .tc .vmem S1x64 .f32) (harg10 : arg10.IsWhole)
  (arg11 : Memref sig .tc .vmem S4x64x4096 .f32) (harg11 : arg11.IsWhole)
  (arg12 : Memref sig .tc .vmem S1x1 .f32) (harg12 : arg12.IsWhole)
  (arg13 : Memref sig .tc .vmem S1x1 .f32) (harg13 : arg13.IsWhole)
  (arg14 : Memref sig .tc .vmem S4x4104x64 .f32) (harg14 : arg14.IsWhole)
  (arg15 : Memref sig .tc .vmem S4x2056x128 .f32) (harg15 : arg15.IsWhole)
  (arg16 : Memref sig .tc .vmem S4x1024x64 .f32) (harg16 : arg16.IsWhole)
  (arg17 : Memref sig .tc .vmem S4x1024x64 .f32) (harg17 : arg17.IsWhole)
  (arg18 : Memref sig .tc .vmem S4x1032x64 .f32) (harg18 : arg18.IsWhole)
  (arg19 : Memref sig .tc .vmem S4x2056x128 .f32) (harg19 : arg19.IsWhole)
  (arg20 : Memref sig .tc .vmem S4x4096x64 .f32) (harg20 : arg20.IsWhole)
  (x0 : Vec Ideal S4x64x4096 .f32)
  (x1 : Vec Ideal S2x128x128 .f32)
  (x2 : Vec Ideal S1x128 .f32)
  (x3 : Vec Ideal S2x256x64 .f32)
  (x4 : Vec Ideal S1x64 .f32)
  (x5 : Vec Ideal S512x64 .f32)
  (x6 : Vec Ideal S2x128x128 .f32)
  (x7 : Vec Ideal S1x128 .f32)
  (x8 : Vec Ideal S2x256x64 .f32)
  (x9 : Vec Ideal S1x64 .f32)

set_option maxHeartbeats 4000000 in
set_option backward.isDefEq.respectTransparency false in
/-- The stores of batch 0 at a later grid step. -/
theorem batch0_B : IsBatch (env arg2 harg2 arg3 harg3 arg4 harg4 arg5 harg5 arg6 harg6 arg7 harg7 arg8 harg8 arg9 harg9 arg10 harg10 arg14 arg15 arg16 arg17 arg18 arg19 arg20 x1 x2 x3 x4 x5 x6 x7 x8 x9) 0 (by omega) (inp arg1 harg1 x0 0 (by omega))
    (kernelRun0_B.sl.HS0_3 (F := Ideal) c arg1 harg1 x0)
    (kernelRun0_B.sl.HS1_3 (F := Ideal) c arg1 harg1 arg2 harg2 arg3 harg3 arg14 x0 x1 x2)
    (kernelRun0_B.sl.HS2_16 (F := Ideal) c arg1 harg1 arg2 harg2 arg3 harg3 arg4 harg4 arg5 harg5 arg14 arg15 x0 x1 x2 x3 x4)
    (kernelRun0_B.sl.HS3_1 (F := Ideal) c arg1 harg1 arg2 harg2 arg3 harg3 arg4 harg4 arg5 harg5 arg6 harg6 arg14 arg15 arg16 x0 x1 x2 x3 x4 x5)
    (kernelRun0_B.sl.HS4_18 (F := Ideal) c arg1 harg1 arg2 harg2 arg3 harg3 arg4 harg4 arg5 harg5 arg6 harg6 arg14 arg15 arg16 arg17 x0 x1 x2 x3 x4 x5)
    (kernelRun0_B.sl.HS5_4 (F := Ideal) c arg1 harg1 arg2 harg2 arg3 harg3 arg4 harg4 arg5 harg5 arg6 harg6 arg7 harg7 arg8 harg8 arg14 arg15 arg16 arg17 arg18 x0 x1 x2 x3 x4 x5 x6 x7)
    (kernelRun0_B.sl.HS6_2 (F := Ideal) c arg1 harg1 arg2 harg2 arg3 harg3 arg4 harg4 arg5 harg5 arg6 harg6 arg7 harg7 arg8 harg8 arg9 harg9 arg10 harg10 arg14 arg15 arg16 arg17 arg18 arg19 x0 x1 x2 x3 x4 x5 x6 x7 x8 x9) where
  x := ⟨_, by exact rfl⟩
  h := ⟨_, by exact rfl⟩
  f := ⟨_, by exact rfl⟩
  q := ⟨_, by exact rfl⟩
  p := ⟨_, by exact rfl⟩
  g := ⟨_, by exact rfl⟩
  o := ⟨_, by exact rfl⟩

set_option maxHeartbeats 4000000 in
set_option backward.isDefEq.respectTransparency false in
/-- The stores of batch 1 at a later grid step. -/
theorem batch1_B : IsBatch (env arg2 harg2 arg3 harg3 arg4 harg4 arg5 harg5 arg6 harg6 arg7 harg7 arg8 harg8 arg9 harg9 arg10 harg10 arg14 arg15 arg16 arg17 arg18 arg19 arg20 x1 x2 x3 x4 x5 x6 x7 x8 x9) 1 (by omega) (inp arg1 harg1 x0 1 (by omega))
    (kernelRun0_B.sl.HS0_6 (F := Ideal) c arg1 harg1 x0)
    (kernelRun0_B.sl.HS1_6 (F := Ideal) c arg1 harg1 arg2 harg2 arg3 harg3 arg14 x0 x1 x2)
    (kernelRun0_B.sl.HS2_32 (F := Ideal) c arg1 harg1 arg2 harg2 arg3 harg3 arg4 harg4 arg5 harg5 arg14 arg15 x0 x1 x2 x3 x4)
    (kernelRun0_B.sl.HS3_2 (F := Ideal) c arg1 harg1 arg2 harg2 arg3 harg3 arg4 harg4 arg5 harg5 arg6 harg6 arg14 arg15 arg16 x0 x1 x2 x3 x4 x5)
    (kernelRun0_B.sl.HS4_36 (F := Ideal) c arg1 harg1 arg2 harg2 arg3 harg3 arg4 harg4 arg5 harg5 arg6 harg6 arg14 arg15 arg16 arg17 x0 x1 x2 x3 x4 x5)
    (kernelRun0_B.sl.HS5_8 (F := Ideal) c arg1 harg1 arg2 harg2 arg3 harg3 arg4 harg4 arg5 harg5 arg6 harg6 arg7 harg7 arg8 harg8 arg14 arg15 arg16 arg17 arg18 x0 x1 x2 x3 x4 x5 x6 x7)
    (kernelRun0_B.sl.HS6_4 (F := Ideal) c arg1 harg1 arg2 harg2 arg3 harg3 arg4 harg4 arg5 harg5 arg6 harg6 arg7 harg7 arg8 harg8 arg9 harg9 arg10 harg10 arg14 arg15 arg16 arg17 arg18 arg19 x0 x1 x2 x3 x4 x5 x6 x7 x8 x9) where
  x := ⟨_, by exact rfl⟩
  h := ⟨_, by exact rfl⟩
  f := ⟨_, by exact rfl⟩
  q := ⟨_, by exact rfl⟩
  p := ⟨_, by exact rfl⟩
  g := ⟨_, by exact rfl⟩
  o := ⟨_, by exact rfl⟩

set_option maxHeartbeats 4000000 in
set_option backward.isDefEq.respectTransparency false in
/-- The stores of batch 2 at a later grid step. -/
theorem batch2_B : IsBatch (env arg2 harg2 arg3 harg3 arg4 harg4 arg5 harg5 arg6 harg6 arg7 harg7 arg8 harg8 arg9 harg9 arg10 harg10 arg14 arg15 arg16 arg17 arg18 arg19 arg20 x1 x2 x3 x4 x5 x6 x7 x8 x9) 2 (by omega) (inp arg1 harg1 x0 2 (by omega))
    (kernelRun0_B.sl.HS0_9 (F := Ideal) c arg1 harg1 x0)
    (kernelRun0_B.sl.HS1_9 (F := Ideal) c arg1 harg1 arg2 harg2 arg3 harg3 arg14 x0 x1 x2)
    (kernelRun0_B.sl.HS2_48 (F := Ideal) c arg1 harg1 arg2 harg2 arg3 harg3 arg4 harg4 arg5 harg5 arg14 arg15 x0 x1 x2 x3 x4)
    (kernelRun0_B.sl.HS3_3 (F := Ideal) c arg1 harg1 arg2 harg2 arg3 harg3 arg4 harg4 arg5 harg5 arg6 harg6 arg14 arg15 arg16 x0 x1 x2 x3 x4 x5)
    (kernelRun0_B.sl.HS4_54 (F := Ideal) c arg1 harg1 arg2 harg2 arg3 harg3 arg4 harg4 arg5 harg5 arg6 harg6 arg14 arg15 arg16 arg17 x0 x1 x2 x3 x4 x5)
    (kernelRun0_B.sl.HS5_12 (F := Ideal) c arg1 harg1 arg2 harg2 arg3 harg3 arg4 harg4 arg5 harg5 arg6 harg6 arg7 harg7 arg8 harg8 arg14 arg15 arg16 arg17 arg18 x0 x1 x2 x3 x4 x5 x6 x7)
    (kernelRun0_B.sl.HS6_6 (F := Ideal) c arg1 harg1 arg2 harg2 arg3 harg3 arg4 harg4 arg5 harg5 arg6 harg6 arg7 harg7 arg8 harg8 arg9 harg9 arg10 harg10 arg14 arg15 arg16 arg17 arg18 arg19 x0 x1 x2 x3 x4 x5 x6 x7 x8 x9) where
  x := ⟨_, by exact rfl⟩
  h := ⟨_, by exact rfl⟩
  f := ⟨_, by exact rfl⟩
  q := ⟨_, by exact rfl⟩
  p := ⟨_, by exact rfl⟩
  g := ⟨_, by exact rfl⟩
  o := ⟨_, by exact rfl⟩

set_option maxHeartbeats 4000000 in
set_option backward.isDefEq.respectTransparency false in
/-- The stores of batch 3 at a later grid step. -/
theorem batch3_B : IsBatch (env arg2 harg2 arg3 harg3 arg4 harg4 arg5 harg5 arg6 harg6 arg7 harg7 arg8 harg8 arg9 harg9 arg10 harg10 arg14 arg15 arg16 arg17 arg18 arg19 arg20 x1 x2 x3 x4 x5 x6 x7 x8 x9) 3 (by omega) (inp arg1 harg1 x0 3 (by omega))
    (kernelRun0_B.sl.HS0_12 (F := Ideal) c arg1 harg1 x0)
    (kernelRun0_B.sl.HS1_12 (F := Ideal) c arg1 harg1 arg2 harg2 arg3 harg3 arg14 x0 x1 x2)
    (kernelRun0_B.sl.HS2_64 (F := Ideal) c arg1 harg1 arg2 harg2 arg3 harg3 arg4 harg4 arg5 harg5 arg14 arg15 x0 x1 x2 x3 x4)
    (kernelRun0_B.sl.HS3_4 (F := Ideal) c arg1 harg1 arg2 harg2 arg3 harg3 arg4 harg4 arg5 harg5 arg6 harg6 arg14 arg15 arg16 x0 x1 x2 x3 x4 x5)
    (kernelRun0_B.sl.HS4_72 (F := Ideal) c arg1 harg1 arg2 harg2 arg3 harg3 arg4 harg4 arg5 harg5 arg6 harg6 arg14 arg15 arg16 arg17 x0 x1 x2 x3 x4 x5)
    (kernelRun0_B.sl.HS5_16 (F := Ideal) c arg1 harg1 arg2 harg2 arg3 harg3 arg4 harg4 arg5 harg5 arg6 harg6 arg7 harg7 arg8 harg8 arg14 arg15 arg16 arg17 arg18 x0 x1 x2 x3 x4 x5 x6 x7)
    (kernelRun0_B.sl.HS6_8 (F := Ideal) c arg1 harg1 arg2 harg2 arg3 harg3 arg4 harg4 arg5 harg5 arg6 harg6 arg7 harg7 arg8 harg8 arg9 harg9 arg10 harg10 arg14 arg15 arg16 arg17 arg18 arg19 x0 x1 x2 x3 x4 x5 x6 x7 x8 x9) where
  x := ⟨_, by exact rfl⟩
  h := ⟨_, by exact rfl⟩
  f := ⟨_, by exact rfl⟩
  q := ⟨_, by exact rfl⟩
  p := ⟨_, by exact rfl⟩
  g := ⟨_, by exact rfl⟩
  o := ⟨_, by exact rfl⟩

set_option maxHeartbeats 4000000 in
set_option backward.isDefEq.respectTransparency false in
/-- The run at a later grid step. -/
theorem run_B (hc0 : ¬cond0_0 i) (xo11 xo12 : Vec Ideal S1x1 .f32) : IsRun (env arg2 harg2 arg3 harg3 arg4 harg4 arg5 harg5 arg6 harg6 arg7 harg7 arg8 harg8 arg9 harg9 arg10 harg10 arg14 arg15 arg16 arg17 arg18 arg19 arg20 x1 x2 x3 x4 x5 x6 x7 x8 x9) (inp arg1 harg1 x0)
    (View.readAt (Elt Ideal) arg12.view (Rect.unit (s := S1x1) ![0, 0] ![1, 1] inb_S1x1_S1x1_0_0).toLoadRect (harg12.unread xo11))
    (View.readAt (Elt Ideal) arg13.view (Rect.unit (s := S1x1) ![0, 0] ![1, 1] inb_S1x1_S1x1_0_0).toLoadRect (harg13.unread xo12))
    (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 xo11 xo12).1
    (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 xo11 xo12).2.1
    (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 xo11 xo12).2.2.1 := by
  refine ⟨![(kernelRun0_B.sl.HS0_3 (F := Ideal) c arg1 harg1 x0), (kernelRun0_B.sl.HS0_6 (F := Ideal) c arg1 harg1 x0), (kernelRun0_B.sl.HS0_9 (F := Ideal) c arg1 harg1 x0), (kernelRun0_B.sl.HS0_12 (F := Ideal) c arg1 harg1 x0)],
    ![(kernelRun0_B.sl.HS1_3 (F := Ideal) c arg1 harg1 arg2 harg2 arg3 harg3 arg14 x0 x1 x2), (kernelRun0_B.sl.HS1_6 (F := Ideal) c arg1 harg1 arg2 harg2 arg3 harg3 arg14 x0 x1 x2), (kernelRun0_B.sl.HS1_9 (F := Ideal) c arg1 harg1 arg2 harg2 arg3 harg3 arg14 x0 x1 x2), (kernelRun0_B.sl.HS1_12 (F := Ideal) c arg1 harg1 arg2 harg2 arg3 harg3 arg14 x0 x1 x2)],
    ![(kernelRun0_B.sl.HS2_16 (F := Ideal) c arg1 harg1 arg2 harg2 arg3 harg3 arg4 harg4 arg5 harg5 arg14 arg15 x0 x1 x2 x3 x4), (kernelRun0_B.sl.HS2_32 (F := Ideal) c arg1 harg1 arg2 harg2 arg3 harg3 arg4 harg4 arg5 harg5 arg14 arg15 x0 x1 x2 x3 x4), (kernelRun0_B.sl.HS2_48 (F := Ideal) c arg1 harg1 arg2 harg2 arg3 harg3 arg4 harg4 arg5 harg5 arg14 arg15 x0 x1 x2 x3 x4), (kernelRun0_B.sl.HS2_64 (F := Ideal) c arg1 harg1 arg2 harg2 arg3 harg3 arg4 harg4 arg5 harg5 arg14 arg15 x0 x1 x2 x3 x4)],
    ![(kernelRun0_B.sl.HS3_1 (F := Ideal) c arg1 harg1 arg2 harg2 arg3 harg3 arg4 harg4 arg5 harg5 arg6 harg6 arg14 arg15 arg16 x0 x1 x2 x3 x4 x5), (kernelRun0_B.sl.HS3_2 (F := Ideal) c arg1 harg1 arg2 harg2 arg3 harg3 arg4 harg4 arg5 harg5 arg6 harg6 arg14 arg15 arg16 x0 x1 x2 x3 x4 x5), (kernelRun0_B.sl.HS3_3 (F := Ideal) c arg1 harg1 arg2 harg2 arg3 harg3 arg4 harg4 arg5 harg5 arg6 harg6 arg14 arg15 arg16 x0 x1 x2 x3 x4 x5), (kernelRun0_B.sl.HS3_4 (F := Ideal) c arg1 harg1 arg2 harg2 arg3 harg3 arg4 harg4 arg5 harg5 arg6 harg6 arg14 arg15 arg16 x0 x1 x2 x3 x4 x5)],
    ![(kernelRun0_B.sl.HS4_18 (F := Ideal) c arg1 harg1 arg2 harg2 arg3 harg3 arg4 harg4 arg5 harg5 arg6 harg6 arg14 arg15 arg16 arg17 x0 x1 x2 x3 x4 x5), (kernelRun0_B.sl.HS4_36 (F := Ideal) c arg1 harg1 arg2 harg2 arg3 harg3 arg4 harg4 arg5 harg5 arg6 harg6 arg14 arg15 arg16 arg17 x0 x1 x2 x3 x4 x5), (kernelRun0_B.sl.HS4_54 (F := Ideal) c arg1 harg1 arg2 harg2 arg3 harg3 arg4 harg4 arg5 harg5 arg6 harg6 arg14 arg15 arg16 arg17 x0 x1 x2 x3 x4 x5), (kernelRun0_B.sl.HS4_72 (F := Ideal) c arg1 harg1 arg2 harg2 arg3 harg3 arg4 harg4 arg5 harg5 arg6 harg6 arg14 arg15 arg16 arg17 x0 x1 x2 x3 x4 x5)],
    ![(kernelRun0_B.sl.HS5_4 (F := Ideal) c arg1 harg1 arg2 harg2 arg3 harg3 arg4 harg4 arg5 harg5 arg6 harg6 arg7 harg7 arg8 harg8 arg14 arg15 arg16 arg17 arg18 x0 x1 x2 x3 x4 x5 x6 x7), (kernelRun0_B.sl.HS5_8 (F := Ideal) c arg1 harg1 arg2 harg2 arg3 harg3 arg4 harg4 arg5 harg5 arg6 harg6 arg7 harg7 arg8 harg8 arg14 arg15 arg16 arg17 arg18 x0 x1 x2 x3 x4 x5 x6 x7), (kernelRun0_B.sl.HS5_12 (F := Ideal) c arg1 harg1 arg2 harg2 arg3 harg3 arg4 harg4 arg5 harg5 arg6 harg6 arg7 harg7 arg8 harg8 arg14 arg15 arg16 arg17 arg18 x0 x1 x2 x3 x4 x5 x6 x7), (kernelRun0_B.sl.HS5_16 (F := Ideal) c arg1 harg1 arg2 harg2 arg3 harg3 arg4 harg4 arg5 harg5 arg6 harg6 arg7 harg7 arg8 harg8 arg14 arg15 arg16 arg17 arg18 x0 x1 x2 x3 x4 x5 x6 x7)],
    ![(kernelRun0_B.sl.HS6_2 (F := Ideal) c arg1 harg1 arg2 harg2 arg3 harg3 arg4 harg4 arg5 harg5 arg6 harg6 arg7 harg7 arg8 harg8 arg9 harg9 arg10 harg10 arg14 arg15 arg16 arg17 arg18 arg19 x0 x1 x2 x3 x4 x5 x6 x7 x8 x9), (kernelRun0_B.sl.HS6_4 (F := Ideal) c arg1 harg1 arg2 harg2 arg3 harg3 arg4 harg4 arg5 harg5 arg6 harg6 arg7 harg7 arg8 harg8 arg9 harg9 arg10 harg10 arg14 arg15 arg16 arg17 arg18 arg19 x0 x1 x2 x3 x4 x5 x6 x7 x8 x9), (kernelRun0_B.sl.HS6_6 (F := Ideal) c arg1 harg1 arg2 harg2 arg3 harg3 arg4 harg4 arg5 harg5 arg6 harg6 arg7 harg7 arg8 harg8 arg9 harg9 arg10 harg10 arg14 arg15 arg16 arg17 arg18 arg19 x0 x1 x2 x3 x4 x5 x6 x7 x8 x9), (kernelRun0_B.sl.HS6_8 (F := Ideal) c arg1 harg1 arg2 harg2 arg3 harg3 arg4 harg4 arg5 harg5 arg6 harg6 arg7 harg7 arg8 harg8 arg9 harg9 arg10 harg10 arg14 arg15 arg16 arg17 arg18 arg19 x0 x1 x2 x3 x4 x5 x6 x7 x8 x9)],
    fun b => ?_, by exact rfl, ⟨_, by exact rfl⟩, ⟨_, by exact rfl⟩⟩
  match b with
  | 0 => exact batch0_B (c := c) ..
  | 1 => exact batch1_B (c := c) ..
  | 2 => exact batch2_B (c := c) ..
  | 3 => exact batch3_B (c := c) ..

end

end Cert.Proof.Batch
-- ==== Proof.Point.lean ====
/-
  One grid point's output blocks: the reconstructions of its four batches, and the two sums so far.
-/
module

public import proofs.«01_k».proof.Proof.BatchAll
public import proofs.«01_k».proof.Proof.BatchRunA
public import proofs.«01_k».proof.Proof.BatchRunB
public import proofs.«01_k».proof.Proof.Gen.KernelIdeal.Frame
public import Idealize.ShloMosaic.Lib.WholeRead

@[expose] public section

set_option maxRecDepth 16384

noncomputable section

namespace Cert.Proof.Batch

open Cert.KernelIdeal Cert.KernelIdeal.Gen Cert.Proof.Spec
open Idealize.ShloMosaic Idealize.ShloMosaic.TcCoe Idealize.SL.Sem

/-- Ten input blocks hold four sequences `X` and the weights `P`. -/
structure Inputs (x0 : Vec Ideal S4x64x4096 .f32) (x1 : Vec Ideal S2x128x128 .f32) (x2 : Vec Ideal S1x128 .f32)
    (x3 : Vec Ideal S2x256x64 .f32) (x4 : Vec Ideal S1x64 .f32) (x5 : Vec Ideal S512x64 .f32) (x6 : Vec Ideal S2x128x128 .f32)
    (x7 : Vec Ideal S1x128 .f32) (x8 : Vec Ideal S2x256x64 .f32) (x9 : Vec Ideal S1x64 .f32)
    (X : ℕ → ℕ → ℕ → EReal) (P : Weights) : Prop where
  x : ∀ (b : Fin 4) (c : Fin 64) (t : Fin 4096), x0 (ix3 b c t) = X b c t
  w1 : ∀ (a : Fin 2) (i : Fin 128) (o : Fin 128), x1 (ix3 a i o) = P.w1 o (i % 64) (2 * a + i / 64)
  b1 : ∀ o : Fin 128, x2 (ix2 (0 : Fin 1) o) = P.b1 o
  w2 : ∀ (a : Fin 2) (i : Fin 256) (o : Fin 64), x3 (ix3 a i o) = P.w2 o (i % 128) (2 * a + i / 128)
  b2 : ∀ o : Fin 64, x4 (ix2 (0 : Fin 1) o) = P.b2 o
  cb : ∀ (k : Fin 512) (l : Fin 64), x5 (ix2 k l) = P.cb k l
  w3 : ∀ (a : Fin 2) (i : Fin 128) (o : Fin 128), x6 (ix3 a i o) = P.w3 (i % 64) o (1 - a + 2 * (i / 64))
  b3 : ∀ o : Fin 128, x7 (ix2 (0 : Fin 1) o) = P.b3 o
  w4 : ∀ (a : Fin 2) (i : Fin 256) (o : Fin 64), x8 (ix3 a i o) = P.w4 (i % 128) o (1 - a + 2 * (i / 128))
  b4 : ∀ o : Fin 64, x9 (ix2 (0 : Fin 1) o) = P.b4 o

/-- A load of the whole of a staged block of rank 3. -/
theorem whole3 {a b c : ℕ} {M : Memref sig .tc .vmem ⟨3, ![a, b, c]⟩ .f32} (hM : M.IsWhole) (x : Vec Ideal ⟨3, ![a, b, c]⟩ .f32)
    {h : ∀ i, (![0, 0, 0] : Fin 3 → ℕ) i + (⟨3, ![a, b, c]⟩ : Shape).size i ≤ (⟨3, ![a, b, c]⟩ : Shape).size i} (i : Fin a) (j : Fin b) (k : Fin c) :
    View.readAt (Elt Ideal) M.view (Rect.unit ![0, 0, 0] (⟨3, ![a, b, c]⟩ : Shape).size h).toLoadRect (hM.unread x) (ix3 i j k) = x (ix3 i j k) := by
  rw [hM.readAt_unread]
  congr 1
  funext d
  refine Fin.ext ?_
  match d with
  | 0 => show 0 + 1 * i.val = i.val; omega
  | 1 => show 0 + 1 * j.val = j.val; omega
  | 2 => show 0 + 1 * k.val = k.val; omega

/-- A load of the whole of a staged block of rank 2. -/
theorem whole2 {a b : ℕ} {M : Memref sig .tc .vmem ⟨2, ![a, b]⟩ .f32} (hM : M.IsWhole) (x : Vec Ideal ⟨2, ![a, b]⟩ .f32)
    {h : ∀ i, (![0, 0] : Fin 2 → ℕ) i + (⟨2, ![a, b]⟩ : Shape).size i ≤ (⟨2, ![a, b]⟩ : Shape).size i} (i : Fin a) (j : Fin b) :
    View.readAt (Elt Ideal) M.view (Rect.unit ![0, 0] (⟨2, ![a, b]⟩ : Shape).size h).toLoadRect (hM.unread x) (ix2 i j) = x (ix2 i j) := by
  rw [hM.readAt_unread]
  congr 1
  funext d
  refine Fin.ext ?_
  match d with
  | 0 => show 0 + 1 * i.val = i.val; omega
  | 1 => show 0 + 1 * j.val = j.val; omega

section

variable {arg1 : Memref sig .tc .vmem S4x64x4096 .f32} {harg1 : arg1.IsWhole}
  {arg2 : Memref sig .tc .vmem S2x128x128 .f32} {harg2 : arg2.IsWhole}
  {arg3 : Memref sig .tc .vmem S1x128 .f32} {harg3 : arg3.IsWhole}
  {arg4 : Memref sig .tc .vmem S2x256x64 .f32} {harg4 : arg4.IsWhole}
  {arg5 : Memref sig .tc .vmem S1x64 .f32} {harg5 : arg5.IsWhole}
  {arg6 : Memref sig .tc .vmem S512x64 .f32} {harg6 : arg6.IsWhole}
  {arg7 : Memref sig .tc .vmem S2x128x128 .f32} {harg7 : arg7.IsWhole}
  {arg8 : Memref sig .tc .vmem S1x128 .f32} {harg8 : arg8.IsWhole}
  {arg9 : Memref sig .tc .vmem S2x256x64 .f32} {harg9 : arg9.IsWhole}
  {arg10 : Memref sig .tc .vmem S1x64 .f32} {harg10 : arg10.IsWhole}
  {arg14 : Memref sig .tc .vmem S4x4104x64 .f32} {arg15 : Memref sig .tc .vmem S4x2056x128 .f32}
  {arg16 arg17 : Memref sig .tc .vmem S4x1024x64 .f32} {arg18 : Memref sig .tc .vmem S4x1032x64 .f32}
  {arg19 : Memref sig .tc .vmem S4x2056x128 .f32} {arg20 : Memref sig .tc .vmem S4x4096x64 .f32}
  {x0 : Vec Ideal S4x64x4096 .f32} {x1 : Vec Ideal S2x128x128 .f32} {x2 : Vec Ideal S1x128 .f32}
  {x3 : Vec Ideal S2x256x64 .f32} {x4 : Vec Ideal S1x64 .f32} {x5 : Vec Ideal S512x64 .f32} {x6 : Vec Ideal S2x128x128 .f32}
  {x7 : Vec Ideal S1x128 .f32} {x8 : Vec Ideal S2x256x64 .f32} {x9 : Vec Ideal S1x64 .f32}
  {X : ℕ → ℕ → ℕ → EReal} {P : Weights}

set_option backward.isDefEq.respectTransparency false in
/-- The run's weights are the blocks'. -/
theorem Inputs.holds (h : Inputs x0 x1 x2 x3 x4 x5 x6 x7 x8 x9 X P) :
    Holds (env arg2 harg2 arg3 harg3 arg4 harg4 arg5 harg5 arg6 harg6 arg7 harg7 arg8 harg8 arg9 harg9 arg10 harg10 arg14 arg15 arg16 arg17 arg18 arg19 arg20 x1 x2 x3 x4 x5 x6 x7 x8 x9) P where
  w1 a i o := by pointwise [env, k0_pay7]; exact (whole3 harg2 x1 a i o).trans (h.w1 a i o)
  b1 o := by pointwise [env, k0_pay8]; exact (whole2 harg3 x2 0 o).trans (h.b1 o)
  w2 a i o := by pointwise [env, k0_pay9]; exact (whole3 harg4 x3 a i o).trans (h.w2 a i o)
  b2 o := by pointwise [env, k0_pay10]; exact (whole2 harg5 x4 0 o).trans (h.b2 o)
  cb k l := (whole2 harg6 x5 k l).trans (h.cb k l)
  w3 a i o := by pointwise [env, k0_pay11]; exact (whole3 harg7 x6 a i o).trans (h.w3 a i o)
  b3 o := by pointwise [env, k0_pay12]; exact (whole2 harg8 x7 0 o).trans (h.b3 o)
  w4 a i o := by pointwise [env, k0_pay13]; exact (whole3 harg9 x8 a i o).trans (h.w4 a i o)
  b4 o := by pointwise [env, k0_pay14]; exact (whole2 harg10 x9 0 o).trans (h.b4 o)

/-- The run's input is the block's. -/
theorem Inputs.inp (h : Inputs x0 x1 x2 x3 x4 x5 x6 x7 x8 x9 X P) (b : ℕ) (hb : b < 4) (c : Fin 64) (t : Fin 4096) :
    Batch.inp arg1 harg1 x0 b hb (ix3 (0 : Fin 1) c t) = X b c t := by
  unfold Batch.inp
  rw [harg1.readAt_unread]
  refine Eq.trans (congrArg x0 ?_) (h.x ⟨b, hb⟩ c t)
  funext d
  refine Fin.ext ?_
  match d with
  | 0 => show b + 1 * 0 = b; omega
  | 1 => show 0 + 1 * c.val = c.val; omega
  | 2 => show 0 + 1 * t.val = t.val; omega

end

/-- The inputs at grid point `t`. -/
abbrev InputsAt (m : (ℓ : Loc nD τ sig) → Buf (Elt Ideal) ℓ) (c : Dev nD) (t : Fin cfg0.N) (X : ℕ → ℕ → ℕ → EReal) (P : Weights) : Prop :=
  Inputs (iblk m c 0 t) (iblk m c 1 t) (iblk m c 2 t) (iblk m c 3 t) (iblk m c 4 t) (iblk m c 5 t) (iblk m c 6 t) (iblk m c 7 t)
    (iblk m c 8 t) (iblk m c 9 t) X P

/-- A cleared entry loads as zero. -/
theorem cleared (M : Memref sig .tc .vmem S1x1 .f32) {p : Vec Ideal S1x1 .f32} :
    M.view.readCov [⟨Rect.unit ![0, 0] ![1, 1] inb_S1x1_S1x1_0_0, p⟩] (Rect.unit (s := S1x1) ![0, 0] ![1, 1] inb_S1x1_S1x1_0_0).toLoadRect (ix2 (0 : Fin 1) (0 : Fin 1))
      = p (ix2 (0 : Fin 1) (0 : Fin 1)) := by
  rw [View.readCov_eq_canon']
  refine Eq.trans (congrArg _ ?_) (canon_one (p := p) (L := []))
  funext a
  match a with
  | 0 => exact Subsingleton.elim (α := Fin 1) _ _
  | 1 => exact Subsingleton.elim (α := Fin 1) _ _

section

variable (c : Dev nD) (i : grid0.Coords)
  (arg1 : Memref sig .tc .vmem S4x64x4096 .f32) (harg1 : arg1.IsWhole)
  (arg2 : Memref sig .tc .vmem S2x128x128 .f32) (harg2 : arg2.IsWhole)
  (arg3 : Memref sig .tc .vmem S1x128 .f32) (harg3 : arg3.IsWhole)
  (arg4 : Memref sig .tc .vmem S2x256x64 .f32) (harg4 : arg4.IsWhole)
  (arg5 : Memref sig .tc .vmem S1x64 .f32) (harg5 : arg5.IsWhole)
  (arg6 : Memref sig .tc .vmem S512x64 .f32) (harg6 : arg6.IsWhole)
  (arg7 : Memref sig .tc .vmem S2x128x128 .f32) (harg7 : arg7.IsWhole)
  (arg8 : Memref sig .tc .vmem S1x128 .f32) (harg8 : arg8.IsWhole)
  (arg9 : Memref sig .tc .vmem S2x256x64 .f32) (harg9 : arg9.IsWhole)
  (arg10 : Memref sig .tc .vmem S1x64 .f32) (harg10 : arg10.IsWhole)
  (arg11 : Memref sig .tc .vmem S4x64x4096 .f32) (harg11 : arg11.IsWhole)
  (arg12 : Memref sig .tc .vmem S1x1 .f32) (harg12 : arg12.IsWhole)
  (arg13 : Memref sig .tc .vmem S1x1 .f32) (harg13 : arg13.IsWhole)
  (arg14 : Memref sig .tc .vmem S4x4104x64 .f32) (harg14 : arg14.IsWhole)
  (arg15 : Memref sig .tc .vmem S4x2056x128 .f32) (harg15 : arg15.IsWhole)
  (arg16 : Memref sig .tc .vmem S4x1024x64 .f32) (harg16 : arg16.IsWhole)
  (arg17 : Memref sig .tc .vmem S4x1024x64 .f32) (harg17 : arg17.IsWhole)
  (arg18 : Memref sig .tc .vmem S4x1032x64 .f32) (harg18 : arg18.IsWhole)
  (arg19 : Memref sig .tc .vmem S4x2056x128 .f32) (harg19 : arg19.IsWhole)
  (arg20 : Memref sig .tc .vmem S4x4096x64 .f32) (harg20 : arg20.IsWhole)
  (x0 : Vec Ideal S4x64x4096 .f32)
  (x1 : Vec Ideal S2x128x128 .f32)
  (x2 : Vec Ideal S1x128 .f32)
  (x3 : Vec Ideal S2x256x64 .f32)
  (x4 : Vec Ideal S1x64 .f32)
  (x5 : Vec Ideal S512x64 .f32)
  (x6 : Vec Ideal S2x128x128 .f32)
  (x7 : Vec Ideal S1x128 .f32)
  (x8 : Vec Ideal S2x256x64 .f32)
  (x9 : Vec Ideal S1x64 .f32)
  {X : ℕ → ℕ → ℕ → EReal} {P : Weights}

/-- The blocks left by the run at the first grid step. -/
theorem out_A (hc0 : cond0_0 i) (h : Inputs x0 x1 x2 x3 x4 x5 x6 x7 x8 x9 X P) (hX : ∀ b c t, 4096 ≤ t → X b c t = 0) :
    (∀ (b : Fin 4) (o : Fin 64) (k : Fin 4096), out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 (ix3 b o k) = P.recon (X b) o k) ∧
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 (ix2 (0 : Fin 1) (0 : Fin 1)) = 0 + ∑ b : Fin 4, P.quantErr (X b) ∧
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 (ix2 (0 : Fin 1) (0 : Fin 1)) = 0 + ∑ b : Fin 4, P.reconErr (X b) := by
  have r := run_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 hc0
  have v := r.values h.holds h.inp hX
  refine ⟨fun b o k => ?_, ?_, ?_⟩
  · exact (View.read_writes_junk_apply_eq_canon _ _ _).trans (v.1 b o k)
  · refine (View.read_writes_junk_apply_eq_canon _ _ _).trans (v.2.1.trans (congrArg (· + _) ((cleared _).trans ?_)))
    pointwise [k0_pay3]
  · refine (View.read_writes_junk_apply_eq_canon _ _ _).trans (v.2.2.trans (congrArg (· + _) ((cleared _).trans ?_)))
    pointwise [k0_pay4]

/-- The blocks left by the run at a later grid step. -/
theorem out_B (hc0 : ¬cond0_0 i) (xo11 xo12 : Vec Ideal S1x1 .f32) (h : Inputs x0 x1 x2 x3 x4 x5 x6 x7 x8 x9 X P) (hX : ∀ b c t, 4096 ≤ t → X b c t = 0) :
    (∀ (b : Fin 4) (o : Fin 64) (k : Fin 4096), out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 xo11 xo12 (ix3 b o k) = P.recon (X b) o k) ∧
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 xo11 xo12 (ix2 (0 : Fin 1) (0 : Fin 1)) = xo11 (ix2 (0 : Fin 1) (0 : Fin 1)) + ∑ b : Fin 4, P.quantErr (X b) ∧
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 xo11 xo12 (ix2 (0 : Fin 1) (0 : Fin 1)) = xo12 (ix2 (0 : Fin 1) (0 : Fin 1)) + ∑ b : Fin 4, P.reconErr (X b) := by
  have r := run_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 hc0 xo11 xo12
  have v := r.values h.holds h.inp hX
  refine ⟨fun b o k => ?_, ?_, ?_⟩
  · exact (View.read_writes_junk_apply_eq_canon _ _ _).trans (v.1 b o k)
  · exact (View.read_writes_junk_apply_eq_canon _ _ _).trans (v.2.1.trans (congrArg (· + _) (whole2 harg12 xo11 0 0)))
  · exact (View.read_writes_junk_apply_eq_canon _ _ _).trans (v.2.2.trans (congrArg (· + _) (whole2 harg13 xo12 0 0)))

end

section

variable {m : (ℓ : Loc nD τ sig) → Buf (Elt Ideal) ℓ} {c : Dev nD} {t : Fin cfg0.N} {X : ℕ → ℕ → ℕ → EReal} {P : Weights}

/-- The first point: the reconstructions, and the two sums from zero. -/
theorem point_A (h0 : t.val % 4 = 0) (hi : InputsAt m c t X P) (hX : ∀ b c t, 4096 ≤ t → X b c t = 0) :
    (∀ (b : Fin 4) (o : Fin 64) (k : Fin 4096), (outsAt0 m c t.val t.isLt).1 (ix3 b o k) = P.recon (X b) o k) ∧
    (outsAt0 m c t.val t.isLt).2.1 (ix2 (0 : Fin 1) (0 : Fin 1)) = 0 + ∑ b : Fin 4, P.quantErr (X b) ∧
    (outsAt0 m c t.val t.isLt).2.2 (ix2 (0 : Fin 1) (0 : Fin 1)) = 0 + ∑ b : Fin 4, P.reconErr (X b) := by
  rw [outsAt0_A m c t h0]
  have v := out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
    scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t)
    ((hcond0_0 t).mpr h0) hi hX
  dsimp only
  exact v

/-- A later point: the reconstructions, and the two sums over what the point before left. -/
theorem point_B (h0 : ¬t.val % 4 = 0) (hi : InputsAt m c t X P) (hX : ∀ b c t, 4096 ≤ t → X b c t = 0) :
    (∀ (b : Fin 4) (o : Fin 64) (k : Fin 4096), (outsAt0 m c t.val t.isLt).1 (ix3 b o k) = P.recon (X b) o k) ∧
    (outsAt0 m c t.val t.isLt).2.1 (ix2 (0 : Fin 1) (0 : Fin 1)) = (outsAt0 m c (t.val - 1) (Nat.lt_of_le_of_lt (Nat.sub_le _ _) t.isLt)).2.1 (ix2 (0 : Fin 1) (0 : Fin 1)) + ∑ b : Fin 4, P.quantErr (X b) ∧
    (outsAt0 m c t.val t.isLt).2.2 (ix2 (0 : Fin 1) (0 : Fin 1)) = (outsAt0 m c (t.val - 1) (Nat.lt_of_le_of_lt (Nat.sub_le _ _) t.isLt)).2.2 (ix2 (0 : Fin 1) (0 : Fin 1)) + ∑ b : Fin 4, P.reconErr (X b) := by
  rw [outsAt0_B m c t h0]
  have v := out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
    scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t)
    (fun h => h0 ((hcond0_0 t).mp h))
    (outsAt0 m c (t.val - 1) (Nat.lt_of_le_of_lt (Nat.sub_le _ _) t.isLt)).2.1 (outsAt0 m c (t.val - 1) (Nat.lt_of_le_of_lt (Nat.sub_le _ _) t.isLt)).2.2 hi hX
  dsimp only
  exact v

end

end Cert.Proof.Batch
-- ==== Proof.Launch.lean ====
/-
  The launch's result arrays: every sequence's reconstruction, and the two sums over all sixteen sequences.
-/
module

public import proofs.«01_k».proof.Proof.Point
public import Idealize.ShloMosaic.Lib.Pipeline.ValueKit

@[expose] public section

set_option maxRecDepth 16384

noncomputable section

namespace Cert.Proof.Batch

open Cert.KernelIdeal Cert.KernelIdeal.Gen Cert.Proof.Spec
open Idealize.ShloMosaic Idealize.ShloMosaic.TcCoe Idealize.SL.Sem

variable {m : (ℓ : Loc nD τ sig) → Buf (Elt Ideal) ℓ} {c : Dev nD} {X : ℕ → ℕ → ℕ → EReal} {P : Weights}

/-- Every point's block of reconstructions. -/
theorem point_recon (hi : ∀ t, InputsAt m c t (fun b => X (4 * t + b)) P) (hX : ∀ b c t, 4096 ≤ t → X b c t = 0)
    (t : Fin cfg0.N) (b : Fin 4) (o : Fin 64) (k : Fin 4096) :
    (outsAt0 m c t.val t.isLt).1 (ix3 b o k) = P.recon (X (4 * t + b)) o k := by
  by_cases h0 : t.val % 4 = 0
  · exact (point_A h0 (hi t) (fun _ => hX _)).1 b o k
  · exact (point_B h0 (hi t) (fun _ => hX _)).1 b o k

/-- The quantiser's sum after the last point. -/
theorem last_quant (hi : ∀ t, InputsAt m c t (fun b => X (4 * t + b)) P) (hX : ∀ b c t, 4096 ≤ t → X b c t = 0) (t : Fin cfg0.N) :
    (outsAt0 m c t.val t.isLt).2.1 (ix2 (0 : Fin 1) (0 : Fin 1)) = 0 + ∑ n ∈ Finset.range (t.val + 1), ∑ b : Fin 4, P.quantErr (X (4 * n + b)) :=
  Pipeline.eq_sum_of_reset_step_single (M := EReal) (fun n h => (outsAt0 m c n h).2.1 (ix2 (0 : Fin 1) (0 : Fin 1))) 4 0
    (fun n => ∑ b : Fin 4, P.quantErr (X (4 * n + b)))
    (fun t h => (point_A h (hi t) (fun _ => hX _)).2.1) (fun t h => (point_B h (hi t) (fun _ => hX _)).2.1) (le_of_eq N_0) t

/-- The reconstruction's sum after the last point. -/
theorem last_recon (hi : ∀ t, InputsAt m c t (fun b => X (4 * t + b)) P) (hX : ∀ b c t, 4096 ≤ t → X b c t = 0) (t : Fin cfg0.N) :
    (outsAt0 m c t.val t.isLt).2.2 (ix2 (0 : Fin 1) (0 : Fin 1)) = 0 + ∑ n ∈ Finset.range (t.val + 1), ∑ b : Fin 4, P.reconErr (X (4 * n + b)) :=
  Pipeline.eq_sum_of_reset_step_single (M := EReal) (fun n h => (outsAt0 m c n h).2.2 (ix2 (0 : Fin 1) (0 : Fin 1))) 4 0
    (fun n => ∑ b : Fin 4, P.reconErr (X (4 * n + b)))
    (fun t h => (point_A h (hi t) (fun _ => hX _)).2.2) (fun t h => (point_B h (hi t) (fun _ => hX _)).2.2) (le_of_eq N_0) t

/-- Four points of four sequences are sixteen sequences. -/
theorem sum_points (f : ℕ → EReal) : 0 + ∑ n ∈ Finset.range 4, ∑ b : Fin 4, f (4 * n + b) = ∑ b : Fin 16, f b := by
  simp only [Finset.sum_range_succ, Finset.sum_range_zero, Fin.sum_univ_succ, Fin.sum_univ_zero, Fin.val_zero, Fin.val_succ]
  norm_num [add_assoc]

/-- The windows' block indices. -/
theorem idx : ∀ t : Fin cfg0.N, win0_0.index t = ![t.val, 0, 0] ∧ win0_1.index t = ![0, 0, 0] ∧ win0_2.index t = ![0, 0] ∧
    win0_3.index t = ![0, 0, 0] ∧ win0_4.index t = ![0, 0] ∧ win0_5.index t = ![0, 0] ∧ win0_6.index t = ![0, 0, 0] ∧
    win0_7.index t = ![0, 0] ∧ win0_8.index t = ![0, 0, 0] ∧ win0_9.index t = ![0, 0] ∧ win0_10.index t = ![t.val, 0, 0] :=
  (by decide +kernel : ∀ t : Fin grid0.N, _)

/-- The first result: each sequence's reconstruction. -/
theorem arr_recon (hi : ∀ t, InputsAt m c t (fun b => X (4 * t + b)) P) (hX : ∀ b c t, 4096 ≤ t → X b c t = 0) :
    (dats m 0 c).arrAt 10 cfg0.N = fun y : (⟨3, ![16, 64, 4096]⟩ : Shape).Idx => P.recon (X (y 0)) (y 1) (y 2) := by
  refine (dats m 0 c).arrAt_eq_of_covers 10 _ (by decide +kernel) fun t hf y => ?_
  blk_simp
  rw [after0_10, (idx t).2.2.2.2.2.2.2.2.2.2]
  have e : y = ix3 (y 0) (y 1) (y 2) := by funext a; match a with | 0 => rfl | 1 => rfl | 2 => rfl
  refine (congrArg _ e).trans ((point_recon hi hX t (y 0) (y 1) (y 2)).trans ?_)
  have e0 : 4 * t.val + (y 0).val = t.val * 4 + (y 0).val := by omega
  have e1 : (y 1).val = 0 * 64 + (y 1).val := by omega
  have e2 : (y 2).val = 0 * 4096 + (y 2).val := by omega
  exact congr (congrArg₂ (fun a b => P.recon (X a) b) e0 e1) e2

/-- The quantiser's sum over all sequences. -/
theorem arr_quant (hi : ∀ t, InputsAt m c t (fun b => X (4 * t + b)) P) (hX : ∀ b c t, 4096 ≤ t → X b c t = 0) :
    (dats m 0 c).arrAt 11 cfg0.N = fun _ : (⟨2, ![1, 1]⟩ : Shape).Idx => ∑ b : Fin 16, P.quantErr (X b) := by
  refine (dats m 0 c).arrAt_eq_of_after_last 11 t0_3 (by decide +kernel) _ fun j => ?_
  blk_simp
  rw [after0_11]
  have e : j = ix2 (0 : Fin 1) (0 : Fin 1) := by
    funext a; match a with | 0 => exact Subsingleton.elim (α := Fin 1) _ _ | 1 => exact Subsingleton.elim (α := Fin 1) _ _
  exact (congrArg _ e).trans ((last_quant hi hX t0_3).trans (sum_points fun b => P.quantErr (X b)))

/-- The reconstruction's sum over all sequences. -/
theorem arr_err (hi : ∀ t, InputsAt m c t (fun b => X (4 * t + b)) P) (hX : ∀ b c t, 4096 ≤ t → X b c t = 0) :
    (dats m 0 c).arrAt 12 cfg0.N = fun _ : (⟨2, ![1, 1]⟩ : Shape).Idx => ∑ b : Fin 16, P.reconErr (X b) := by
  refine (dats m 0 c).arrAt_eq_of_after_last 12 t0_3 (by decide +kernel) _ fun j => ?_
  blk_simp
  rw [after0_12]
  have e : j = ix2 (0 : Fin 1) (0 : Fin 1) := by
    funext a; match a with | 0 => exact Subsingleton.elim (α := Fin 1) _ _ | 1 => exact Subsingleton.elim (α := Fin 1) _ _
  exact (congrArg _ e).trans ((last_recon hi hX t0_3).trans (sum_points fun b => P.reconErr (X b)))

end Cert.Proof.Batch

end
-- ==== Proof.Arrays.lean ====
/-
  The argument arrays as functions of natural coordinates, and the weights they hold.
-/
module

public import proofs.«01_k».proof.Proof.Model
public import Idealize.ShloMosaic.Lib.Pointwise

@[expose] public section

noncomputable section

namespace Cert.Proof.Spec

open Idealize.ShloMosaic Idealize.ShloMosaic.TcCoe

/-- The array `x` read at natural coordinates, zero outside. -/
def at3 {a b c : ℕ} (x : Vec Ideal ⟨3, ![a, b, c]⟩ .f32) (i j k : ℕ) : EReal :=
  if h : i < a ∧ j < b ∧ k < c then x (ix3 ⟨i, h.1⟩ ⟨j, h.2.1⟩ ⟨k, h.2.2⟩) else 0

/-- The matrix `x` read at natural coordinates, zero outside. -/
def at2 {a b : ℕ} (x : Vec Ideal ⟨2, ![a, b]⟩ .f32) (i j : ℕ) : EReal :=
  if h : i < a ∧ j < b then x (ix2 ⟨i, h.1⟩ ⟨j, h.2⟩) else 0

/-- The vector `x` read at a natural coordinate, zero outside. -/
def at1 {a : ℕ} (x : Vec Ideal ⟨1, ![a]⟩ .f32) (i : ℕ) : EReal := if h : i < a then x (ix1 ⟨i, h⟩) else 0

/-- The weights held by nine argument arrays. -/
def weights (a1 : Vec Ideal ⟨3, ![128, 64, 4]⟩ .f32) (a2 : Vec Ideal ⟨1, ![128]⟩ .f32) (a3 : Vec Ideal ⟨3, ![64, 128, 4]⟩ .f32)
    (a4 : Vec Ideal ⟨1, ![64]⟩ .f32) (a5 : Vec Ideal ⟨2, ![512, 64]⟩ .f32) (a6 : Vec Ideal ⟨3, ![64, 128, 4]⟩ .f32)
    (a7 : Vec Ideal ⟨1, ![128]⟩ .f32) (a8 : Vec Ideal ⟨3, ![128, 64, 4]⟩ .f32) (a9 : Vec Ideal ⟨1, ![64]⟩ .f32) : Weights where
  w1 := at3 a1
  b1 := at1 a2
  w2 := at3 a3
  b2 := at1 a4
  cb := at2 a5
  w3 := at3 a6
  b3 := at1 a7
  w4 := at3 a8
  b4 := at1 a9

theorem at3_eq {a b c : ℕ} (x : Vec Ideal ⟨3, ![a, b, c]⟩ .f32) (i : Fin a) (j : Fin b) (k : Fin c) : x (ix3 i j k) = at3 x i j k := by
  unfold at3
  rw [dif_pos (⟨i.isLt, j.isLt, k.isLt⟩ : i.val < a ∧ j.val < b ∧ k.val < c)]

theorem at2_eq {a b : ℕ} (x : Vec Ideal ⟨2, ![a, b]⟩ .f32) (i : Fin a) (j : Fin b) : x (ix2 i j) = at2 x i j := by
  unfold at2
  rw [dif_pos (⟨i.isLt, j.isLt⟩ : i.val < a ∧ j.val < b)]

theorem at1_eq {a : ℕ} (x : Vec Ideal ⟨1, ![a]⟩ .f32) (i : Fin a) : x (ix1 i) = at1 x i := by
  unfold at1
  rw [dif_pos i.isLt]

/-- The array's element at coordinates of the given values. -/
theorem read3 {a b c : ℕ} (x : Vec Ideal ⟨3, ![a, b, c]⟩ .f32) {i : Fin a} {j : Fin b} {k : Fin c} {i' j' k' : ℕ}
    (hi : i.val = i') (hj : j.val = j') (hk : k.val = k') : x (ix3 i j k) = at3 x i' j' k' := by
  subst hi hj hk
  exact at3_eq x i j k

theorem at3_out {a b c : ℕ} (x : Vec Ideal ⟨3, ![a, b, c]⟩ .f32) (i j k : ℕ) (h : c ≤ k) : at3 x i j k = 0 :=
  dif_neg fun h' => by omega

end Cert.Proof.Spec

end
-- ==== Proof.Host.lean ====
/-
  The host line before the launch: the blocks each grid point stages are the argument arrays' sequences and weights.
-/
module

public import proofs.«01_k».proof.Proof.Launch
public import proofs.«01_k».proof.Proof.Arrays
public import Idealize.ShloMosaic.Lib.StableHlo.ReadAt

@[expose] public section

set_option maxRecDepth 16384

noncomputable section

namespace Cert.Proof.Batch

open Cert.KernelIdeal Cert.KernelIdeal.Gen Cert.Proof.Spec
open Idealize.ShloMosaic Idealize.ShloMosaic.TcCoe Idealize.SL.Sem

variable (m : (ℓ : Loc nD τ sig) → Buf (Elt Ideal) ℓ) (c : Dev nD) (t : Fin cfg0.N)

theorem lt_four : t.val < 4 := lt_of_lt_of_eq t.isLt N_0

/-- The staged sequences are four of the input's. -/
theorem blk0 (b : Fin 4) (o : Fin 64) (k : Fin 4096) :
    iblk m c 0 t (ix3 b o k) = V m c main_arg0 (ix3 (⟨4 * t + b, by have := lt_four t; omega⟩ : Fin 16) o k) := by
  blk_ext! [iblk, idx t]

theorem blk1 : iblk m c 1 t = V m c main_v13 := by
  blk_ext! [iblk, idx t]

theorem blk2 : iblk m c 2 t = V m c main_v56 := by
  blk_ext! [iblk, idx t]

theorem blk3 : iblk m c 3 t = V m c main_v27 := by
  blk_ext! [iblk, idx t]

theorem blk4 : iblk m c 4 t = V m c main_v57 := by
  blk_ext! [iblk, idx t]

theorem blk5 : iblk m c 5 t = V m c main_arg5 := by
  blk_ext! [iblk, idx t]

theorem blk6 : iblk m c 6 t = V m c main_v41 := by
  blk_ext! [iblk, idx t]

theorem blk7 : iblk m c 7 t = V m c main_v58 := by
  blk_ext! [iblk, idx t]

theorem blk8 : iblk m c 8 t = V m c main_v55 := by
  blk_ext! [iblk, idx t]

theorem blk9 : iblk m c 9 t = V m c main_v59 := by
  blk_ext! [iblk, idx t]

/-- Two taps side by side, twice: the staged weights of argument 1. -/
theorem host1 (a : Fin 2) (i : Fin 128) (o : Fin 128) :
    V m c main_v13 (ix3 a i o) = at3 (m (c, Proc.devRef .tc main_arg1)) o (i % 64) (2 * a + i / 64) := by
  simp only [V, V0, List.flatten_cons, List.flatten_nil, List.append_nil, hostOps0]
  after_reads_at
  after_reads_at
  split_ifs <;> exact read3 _ (by first | rfl | omega | (dsimp only; omega)) (by first | rfl | omega | (dsimp only; omega)) (by first | omega | (dsimp only [Fin.val_zero, Fin.val_one]; omega) | (simp; omega))

/-- Two taps side by side, twice: the staged weights of argument 3. -/
theorem host3 (a : Fin 2) (i : Fin 256) (o : Fin 64) :
    V m c main_v27 (ix3 a i o) = at3 (m (c, Proc.devRef .tc main_arg3)) o (i % 128) (2 * a + i / 128) := by
  simp only [V, V0, List.flatten_cons, List.flatten_nil, List.append_nil, hostOps0]
  after_reads_at
  after_reads_at
  split_ifs <;> exact read3 _ (by first | rfl | omega | (dsimp only; omega)) (by first | rfl | omega | (dsimp only; omega)) (by first | omega | (dsimp only [Fin.val_zero, Fin.val_one]; omega) | (simp; omega))

/-- Two taps side by side, twice: the staged weights of argument 6. -/
theorem host6 (a : Fin 2) (i : Fin 128) (o : Fin 128) :
    V m c main_v41 (ix3 a i o) = at3 (m (c, Proc.devRef .tc main_arg6)) (i % 64) o (1 - a + 2 * (i / 64)) := by
  simp only [V, V0, List.flatten_cons, List.flatten_nil, List.append_nil, hostOps0]
  after_reads_at
  after_reads_at
  split_ifs <;> exact read3 _ (by first | rfl | omega | (dsimp only; omega)) (by first | rfl | omega | (dsimp only; omega)) (by first | omega | (dsimp only [Fin.val_zero, Fin.val_one]; omega) | (simp; omega))

/-- Two taps side by side, twice: the staged weights of argument 8. -/
theorem host8 (a : Fin 2) (i : Fin 256) (o : Fin 64) :
    V m c main_v55 (ix3 a i o) = at3 (m (c, Proc.devRef .tc main_arg8)) (i % 128) o (1 - a + 2 * (i / 128)) := by
  simp only [V, V0, List.flatten_cons, List.flatten_nil, List.append_nil, hostOps0]
  after_reads_at
  after_reads_at
  split_ifs <;> exact read3 _ (by first | rfl | omega | (dsimp only; omega)) (by first | rfl | omega | (dsimp only; omega)) (by first | omega | (dsimp only [Fin.val_zero, Fin.val_one]; omega) | (simp; omega))

/-- The staged bias of argument 2. -/
theorem host2 (o : Fin 128) : V m c main_v56 (ix2 (0 : Fin 1) o) = at1 (m (c, Proc.devRef .tc main_arg2)) o := by
  simp only [V, V0, List.flatten_cons, List.flatten_nil, List.append_nil, hostOps0]
  after_reads_at
  exact at1_eq _ o

/-- The staged bias of argument 4. -/
theorem host4 (o : Fin 64) : V m c main_v57 (ix2 (0 : Fin 1) o) = at1 (m (c, Proc.devRef .tc main_arg4)) o := by
  simp only [V, V0, List.flatten_cons, List.flatten_nil, List.append_nil, hostOps0]
  after_reads_at
  exact at1_eq _ o

/-- The staged bias of argument 7. -/
theorem host7 (o : Fin 128) : V m c main_v58 (ix2 (0 : Fin 1) o) = at1 (m (c, Proc.devRef .tc main_arg7)) o := by
  simp only [V, V0, List.flatten_cons, List.flatten_nil, List.append_nil, hostOps0]
  after_reads_at
  exact at1_eq _ o

/-- The staged bias of argument 9. -/
theorem host9 (o : Fin 64) : V m c main_v59 (ix2 (0 : Fin 1) o) = at1 (m (c, Proc.devRef .tc main_arg9)) o := by
  simp only [V, V0, List.flatten_cons, List.flatten_nil, List.append_nil, hostOps0]
  after_reads_at
  exact at1_eq _ o

/-- The weights the argument arrays hold. -/
abbrev argWeights : Weights :=
  weights (m (c, Proc.devRef .tc main_arg1)) (m (c, Proc.devRef .tc main_arg2)) (m (c, Proc.devRef .tc main_arg3))
    (m (c, Proc.devRef .tc main_arg4)) (m (c, Proc.devRef .tc main_arg5)) (m (c, Proc.devRef .tc main_arg6))
    (m (c, Proc.devRef .tc main_arg7)) (m (c, Proc.devRef .tc main_arg8)) (m (c, Proc.devRef .tc main_arg9))

/-- Every point's blocks: its four sequences, and the weights. -/
theorem inputs_at : InputsAt m c t (fun b => at3 (m (c, Proc.devRef .tc main_arg0)) (4 * t + b)) (argWeights m c) where
  x b o k := (blk0 m c t b o k).trans ((congrFun (V_main_arg0 m c) _).trans (read3 _ rfl rfl rfl))
  w1 a i o := (congrFun (blk1 m c t) _).trans (host1 m c a i o)
  b1 o := (congrFun (blk2 m c t) _).trans (host2 m c o)
  w2 a i o := (congrFun (blk3 m c t) _).trans (host3 m c a i o)
  b2 o := (congrFun (blk4 m c t) _).trans (host4 m c o)
  cb k l := (congrFun (blk5 m c t) _).trans ((congrFun (V_main_arg5 m c) _).trans (at2_eq _ k l))
  w3 a i o := (congrFun (blk6 m c t) _).trans (host6 m c a i o)
  b3 o := (congrFun (blk7 m c t) _).trans (host7 m c o)
  w4 a i o := (congrFun (blk8 m c t) _).trans (host8 m c a i o)
  b4 o := (congrFun (blk9 m c t) _).trans (host9 m c o)

end Cert.Proof.Batch

end
-- ==== Proof.KernelRun.lean ====
/-
  The kernel's run: the reconstruction of every sequence, and the loss of the two sums.
-/
module

public import proofs.«01_k».proof.Proof.Host
public import Idealize.ShloMosaic.Lib.Claim

@[expose] public section

set_option maxRecDepth 16384

noncomputable section

namespace Cert.Proof.Batch

open Cert.KernelIdeal Cert.KernelIdeal.Gen Cert.Proof.Spec
open Idealize.ShloMosaic Idealize.ShloMosaic.TcCoe Idealize.SL.Sem

variable (m : (ℓ : Loc nD τ sig) → Buf (Elt Ideal) ℓ)

/-- The input sequences. -/
abbrev argSeqs (c : Dev nD) : ℕ → ℕ → ℕ → EReal := at3 (m (c, Proc.devRef .tc main_arg0))

/-- The loss as the kernel's host lines write it. -/
def loss (P : Weights) (X : ℕ → ℕ → ℕ → EReal) : EReal :=
  Ideal.div (∑ b : Fin 16, P.reconErr (X b)) (Ideal.ofBits FTy.f32 1249902592#32) +
    Ideal.div (Ideal.ofBits FTy.f32 1067450368#32 * ∑ b : Fin 16, P.quantErr (X b)) (Ideal.ofBits FTy.f32 1233125376#32)

set_option maxHeartbeats 1000000 in
/-- The host lines after the launch leave the loss. -/
theorem loss_tail (c : Dev nD) :
    Pipeline.afterTail₀ cfgs (dats m) 0 (V0 m) [hostOps1] c main_v66 = (fun _ : (⟨0, ![]⟩ : Shape).Idx => loss (argWeights m c) (argSeqs m c)) := by
  unfold Pipeline.afterTail₀
  simp only [List.flatten_cons, List.flatten_nil, List.append_nil, hostOps1]
  funext y
  have e : y = ix0 := by funext a; exact a.elim0
  rw [e]
  after_reads_at
  have h1 : Pipeline.withArrays (cfgs 0).spec c (V0 m c) (fun w => (dats m 0 c).arrAt w (cfgs 0).N) (Proc.devRef .tc main_v60_1)
      (ix2 (0 : Fin 1) (0 : Fin 1)) = ∑ b : Fin 16, (argWeights m c).quantErr (argSeqs m c b) :=
    (congrFun (Pipeline.withArrays_arr (cfgs 0).spec (by decide) c (V0 m c) (fun w => (dats m 0 c).arrAt w (cfgs 0).N) 11) _).trans
      (congrFun (arr_quant (X := argSeqs m c) (inputs_at m c) fun b c t h => at3_out _ b c t h) _)
  have h2 : Pipeline.withArrays (cfgs 0).spec c (V0 m c) (fun w => (dats m 0 c).arrAt w (cfgs 0).N) (Proc.devRef .tc main_v60_2)
      (ix2 (0 : Fin 1) (0 : Fin 1)) = ∑ b : Fin 16, (argWeights m c).reconErr (argSeqs m c b) :=
    (congrFun (Pipeline.withArrays_arr (cfgs 0).spec (by decide) c (V0 m c) (fun w => (dats m 0 c).arrAt w (cfgs 0).N) 12) _).trans
      (congrFun (arr_err (X := argSeqs m c) (inputs_at m c) fun b c t h => at3_out _ b c t h) _)
  rw [h1, h2, loss]

set_option maxHeartbeats 1000000 in
/-- The two results of every run. -/
theorem results (g : Dev nD → PrngReg) :
    θ_run defs (onTc (τ := τ) (main (F := Ideal))) ⟨m, fun _ => 0, g⟩ fun r => ∀ c : Dev nD,
      r.2.mem ((c.tc : Thread nD τ).loc main_v60_0)
          = (fun y : (⟨3, ![16, 64, 4096]⟩ : Shape).Idx => (argWeights m c).recon (argSeqs m c (y 0)) (y 1) (y 2))
      ∧ r.2.mem ((c.tc : Thread nD τ).loc main_v66) = (fun _ : (⟨0, ![]⟩ : Shape).Idx => loss (argWeights m c) (argSeqs m c)) := by
  run_from Gen.run_main m g
  · exact arr_recon (X := argSeqs m c) (inputs_at m c) fun b c t h => at3_out _ b c t h
  · exact loss_tail m c

/-- Every run of the kernel ends with the reconstruction, the loss, and its arguments unchanged. -/
theorem run (g : Dev nD → PrngReg) :
    θ_run defs (onTc (τ := τ) (main (F := Ideal))) ⟨m, fun _ => 0, g⟩ fun r => ∀ c : Dev nD,
      r.2.mem ((c.tc : Thread nD τ).loc main_v60_0)
          = (fun y : (⟨3, ![16, 64, 4096]⟩ : Shape).Idx => (argWeights m c).recon (argSeqs m c (y 0)) (y 1) (y 2))
      ∧ r.2.mem ((c.tc : Thread nD τ).loc main_v66) = (fun _ : (⟨0, ![]⟩ : Shape).Idx => loss (argWeights m c) (argSeqs m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun r h c => ?_) (θ_run_and (results m g) (Gen.unchanged m g))
  exact ⟨(h.1 c).1, (h.1 c).2, h.2 c⟩

end Cert.Proof.Batch

end
-- ==== Proof.RefRun.lean ====
/-
  The reference's run: @main is a straight line of host operations, listed here stage by stage in the printed order
  (`ops1` … `ops8`), so every buffer ends at the operations' results folded over the launch contents (`run_main`).
-/
module

public import proofs.«01_k».proof.Proof.Gen.ReferenceIdeal
public import Idealize.ShloMosaic.Lib.StableHlo.Run
public import Idealize.ShloMosaic.Lib.StableHlo.RunHlo

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- Stage 1: the first convolution and its clamp at zero, to `%29`. -/
abbrev ops1 : List (HloOp τ sig (Elt F)) :=
  [ nullary main_c (constantI S_ 32 0#32),
    TRef.unary (.of main_c : TRef sig ⟨S_, .i32⟩) main_call0.v0 (sitofp .f32),
    TRef.binary (.of main_arg0 : TRef sig ⟨S16x64x4096, .f32⟩) main_call0.v0 main_call0.v1 (fun x v => pad S16x64x4098 ![0, 0, 1] ![0, 0, 1] ![0, 0, 0] x v pads_S16x64x4096_S16x64x4098_000_000_110 h_S_),
    unary main_arg1 main_v1 ((extractStridedSlice S128x64x1 ![0, 0, 0] · slices_S128x64x4_S128x64x1_0_0_0) : (⟨S128x64x4, .f32⟩ : BufTy).Contents (Elt F) → (⟨S128x64x1, .f32⟩ : BufTy).Contents (Elt F)),
    reshape main_v1 main_v2 (rfl : (.f32 : EltTy) = .f32) shapeCasts_S128x64x1_S128x64,
    unary main_v0 main_v3 ((Host.slice S16x64x2048 ![0, 0, 0] ![1, 1, 2] · slicesBy_S16x64x4098_S16x64x2048_0s1_0s1_0s2) : (⟨S16x64x4098, .f32⟩ : BufTy).Contents (Elt F) → (⟨S16x64x2048, .f32⟩ : BufTy).Contents (Elt F)),
    binary main_v3 main_v2 main_v4 ((fun l r => Host.dotGeneral dot_S16x64x2048_S128x64_S16x2048x128_1_1_02_0_n_n none l r) : (⟨S16x64x2048, .f32⟩ : BufTy).Contents (Elt F) → (⟨S128x64, .f32⟩ : BufTy).Contents (Elt F) → (⟨S16x2048x128, .f32⟩ : BufTy).Contents (Elt F)),
    unary main_v4 main_v5 ((transpose S16x128x2048 [0, 2, 1] · transposes_S16x2048x128_S16x128x2048_0_2_1) : (⟨S16x2048x128, .f32⟩ : BufTy).Contents (Elt F) → (⟨S16x128x2048, .f32⟩ : BufTy).Contents (Elt F)),
    nullary main_cst (constant S_ .f32 0x00000000#32),
    unary main_cst main_v6 (broadcastInDim S16x128x2048 ![] bcast_S_S16x128x2048 : (⟨S_, .f32⟩ : BufTy).Contents (Elt F) → (⟨S16x128x2048, .f32⟩ : BufTy).Contents (Elt F)),
    binary main_v6 main_v5 main_v7 (addf : (⟨S16x128x2048, .f32⟩ : BufTy).Contents (Elt F) → (⟨S16x128x2048, .f32⟩ : BufTy).Contents (Elt F) → (⟨S16x128x2048, .f32⟩ : BufTy).Contents (Elt F)),
    unary main_arg1 main_v8 ((extractStridedSlice S128x64x1 ![0, 0, 1] · slices_S128x64x4_S128x64x1_0_0_1) : (⟨S128x64x4, .f32⟩ : BufTy).Contents (Elt F) → (⟨S128x64x1, .f32⟩ : BufTy).Contents (Elt F)),
    reshape main_v8 main_v9 (rfl : (.f32 : EltTy) = .f32) shapeCasts_S128x64x1_S128x64,
    unary main_v0 main_v10 ((Host.slice S16x64x2048 ![0, 0, 1] ![1, 1, 2] · slicesBy_S16x64x4098_S16x64x2048_0s1_0s1_1s2) : (⟨S16x64x4098, .f32⟩ : BufTy).Contents (Elt F) → (⟨S16x64x2048, .f32⟩ : BufTy).Contents (Elt F)),
    binary main_v10 main_v9 main_v11 ((fun l r => Host.dotGeneral dot_S16x64x2048_S128x64_S16x2048x128_1_1_02_0_n_n none l r) : (⟨S16x64x2048, .f32⟩ : BufTy).Contents (Elt F) → (⟨S128x64, .f32⟩ : BufTy).Contents (Elt F) → (⟨S16x2048x128, .f32⟩ : BufTy).Contents (Elt F)),
    unary main_v11 main_v12 ((transpose S16x128x2048 [0, 2, 1] · transposes_S16x2048x128_S16x128x2048_0_2_1) : (⟨S16x2048x128, .f32⟩ : BufTy).Contents (Elt F) → (⟨S16x128x2048, .f32⟩ : BufTy).Contents (Elt F)),
    binary main_v7 main_v12 main_v13 (addf : (⟨S16x128x2048, .f32⟩ : BufTy).Contents (Elt F) → (⟨S16x128x2048, .f32⟩ : BufTy).Contents (Elt F) → (⟨S16x128x2048, .f32⟩ : BufTy).Contents (Elt F)),
    unary main_arg1 main_v14 ((extractStridedSlice S128x64x1 ![0, 0, 2] · slices_S128x64x4_S128x64x1_0_0_2) : (⟨S128x64x4, .f32⟩ : BufTy).Contents (Elt F) → (⟨S128x64x1, .f32⟩ : BufTy).Contents (Elt F)),
    reshape main_v14 main_v15 (rfl : (.f32 : EltTy) = .f32) shapeCasts_S128x64x1_S128x64,
    unary main_v0 main_v16 ((Host.slice S16x64x2048 ![0, 0, 2] ![1, 1, 2] · slicesBy_S16x64x4098_S16x64x2048_0s1_0s1_2s2) : (⟨S16x64x4098, .f32⟩ : BufTy).Contents (Elt F) → (⟨S16x64x2048, .f32⟩ : BufTy).Contents (Elt F)),
    binary main_v16 main_v15 main_v17 ((fun l r => Host.dotGeneral dot_S16x64x2048_S128x64_S16x2048x128_1_1_02_0_n_n none l r) : (⟨S16x64x2048, .f32⟩ : BufTy).Contents (Elt F) → (⟨S128x64, .f32⟩ : BufTy).Contents (Elt F) → (⟨S16x2048x128, .f32⟩ : BufTy).Contents (Elt F)),
    unary main_v17 main_v18 ((transpose S16x128x2048 [0, 2, 1] · transposes_S16x2048x128_S16x128x2048_0_2_1) : (⟨S16x2048x128, .f32⟩ : BufTy).Contents (Elt F) → (⟨S16x128x2048, .f32⟩ : BufTy).Contents (Elt F)),
    binary main_v13 main_v18 main_v19 (addf : (⟨S16x128x2048, .f32⟩ : BufTy).Contents (Elt F) → (⟨S16x128x2048, .f32⟩ : BufTy).Contents (Elt F) → (⟨S16x128x2048, .f32⟩ : BufTy).Contents (Elt F)),
    unary main_arg1 main_v20 ((extractStridedSlice S128x64x1 ![0, 0, 3] · slices_S128x64x4_S128x64x1_0_0_3) : (⟨S128x64x4, .f32⟩ : BufTy).Contents (Elt F) → (⟨S128x64x1, .f32⟩ : BufTy).Contents (Elt F)),
    reshape main_v20 main_v21 (rfl : (.f32 : EltTy) = .f32) shapeCasts_S128x64x1_S128x64,
    unary main_v0 main_v22 ((Host.slice S16x64x2048 ![0, 0, 3] ![1, 1, 2] · slicesBy_S16x64x4098_S16x64x2048_0s1_0s1_3s2) : (⟨S16x64x4098, .f32⟩ : BufTy).Contents (Elt F) → (⟨S16x64x2048, .f32⟩ : BufTy).Contents (Elt F)),
    binary main_v22 main_v21 main_v23 ((fun l r => Host.dotGeneral dot_S16x64x2048_S128x64_S16x2048x128_1_1_02_0_n_n none l r) : (⟨S16x64x2048, .f32⟩ : BufTy).Contents (Elt F) → (⟨S128x64, .f32⟩ : BufTy).Contents (Elt F) → (⟨S16x2048x128, .f32⟩ : BufTy).Contents (Elt F)),
    unary main_v23 main_v24 ((transpose S16x128x2048 [0, 2, 1] · transposes_S16x2048x128_S16x128x2048_0_2_1) : (⟨S16x2048x128, .f32⟩ : BufTy).Contents (Elt F) → (⟨S16x128x2048, .f32⟩ : BufTy).Contents (Elt F)),
    binary main_v19 main_v24 main_v25 (addf : (⟨S16x128x2048, .f32⟩ : BufTy).Contents (Elt F) → (⟨S16x128x2048, .f32⟩ : BufTy).Contents (Elt F) → (⟨S16x128x2048, .f32⟩ : BufTy).Contents (Elt F)),
    unary main_arg2 main_v26 (broadcastInDim S1x128x1 ![1] bcast_S128_S1x128x1_1 : (⟨S128, .f32⟩ : BufTy).Contents (Elt F) → (⟨S1x128x1, .f32⟩ : BufTy).Contents (Elt F)),
    unary main_v26 main_v27 (broadcastInDim S16x128x2048 ![0, 1, 2] bcast_S1x128x1_S16x128x2048_0_1_2 : (⟨S1x128x1, .f32⟩ : BufTy).Contents (Elt F) → (⟨S16x128x2048, .f32⟩ : BufTy).Contents (Elt F)),
    binary main_v25 main_v27 main_v28 (addf : (⟨S16x128x2048, .f32⟩ : BufTy).Contents (Elt F) → (⟨S16x128x2048, .f32⟩ : BufTy).Contents (Elt F) → (⟨S16x128x2048, .f32⟩ : BufTy).Contents (Elt F)),
    TRef.nullary main_call1.cst (constant S_ .f32 0x00000000#32),
    TRef.unary main_call1.cst main_call1.v0 (broadcastInDim S16x128x2048 ![] bcast_S_S16x128x2048),
    TRef.binary (.of main_v28 : TRef sig ⟨S16x128x2048, .f32⟩) main_call1.v0 main_call1.v1 maximumf ]

/-- Stage 2: the second convolution and its clamp at zero, to `%59`. -/
abbrev ops2 : List (HloOp τ sig (Elt F)) :=
  [ nullary main_c_0 (constantI S_ 32 0#32),
    TRef.unary (.of main_c_0 : TRef sig ⟨S_, .i32⟩) main_call2.v0 (sitofp .f32),
    TRef.binary (.of main_v29 : TRef sig ⟨S16x128x2048, .f32⟩) main_call2.v0 main_call2.v1 (fun x v => pad S16x128x2050 ![0, 0, 1] ![0, 0, 1] ![0, 0, 0] x v pads_S16x128x2048_S16x128x2050_000_000_110 h_S_),
    unary main_arg3 main_v31 ((extractStridedSlice S64x128x1 ![0, 0, 0] · slices_S64x128x4_S64x128x1_0_0_0) : (⟨S64x128x4, .f32⟩ : BufTy).Contents (Elt F) → (⟨S64x128x1, .f32⟩ : BufTy).Contents (Elt F)),
    reshape main_v31 main_v32 (rfl : (.f32 : EltTy) = .f32) shapeCasts_S64x128x1_S64x128,
    unary main_v30 main_v33 ((Host.slice S16x128x1024 ![0, 0, 0] ![1, 1, 2] · slicesBy_S16x128x2050_S16x128x1024_0s1_0s1_0s2) : (⟨S16x128x2050, .f32⟩ : BufTy).Contents (Elt F) → (⟨S16x128x1024, .f32⟩ : BufTy).Contents (Elt F)),
    binary main_v33 main_v32 main_v34 ((fun l r => Host.dotGeneral dot_S16x128x1024_S64x128_S16x1024x64_1_1_02_0_n_n none l r) : (⟨S16x128x1024, .f32⟩ : BufTy).Contents (Elt F) → (⟨S64x128, .f32⟩ : BufTy).Contents (Elt F) → (⟨S16x1024x64, .f32⟩ : BufTy).Contents (Elt F)),
    unary main_v34 main_v35 ((transpose S16x64x1024 [0, 2, 1] · transposes_S16x1024x64_S16x64x1024_0_2_1) : (⟨S16x1024x64, .f32⟩ : BufTy).Contents (Elt F) → (⟨S16x64x1024, .f32⟩ : BufTy).Contents (Elt F)),
    nullary main_cst_1 (constant S_ .f32 0x00000000#32),
    unary main_cst_1 main_v36 (broadcastInDim S16x64x1024 ![] bcast_S_S16x64x1024 : (⟨S_, .f32⟩ : BufTy).Contents (Elt F) → (⟨S16x64x1024, .f32⟩ : BufTy).Contents (Elt F)),
    binary main_v36 main_v35 main_v37 (addf : (⟨S16x64x1024, .f32⟩ : BufTy).Contents (Elt F) → (⟨S16x64x1024, .f32⟩ : BufTy).Contents (Elt F) → (⟨S16x64x1024, .f32⟩ : BufTy).Contents (Elt F)),
    unary main_arg3 main_v38 ((extractStridedSlice S64x128x1 ![0, 0, 1] · slices_S64x128x4_S64x128x1_0_0_1) : (⟨S64x128x4, .f32⟩ : BufTy).Contents (Elt F) → (⟨S64x128x1, .f32⟩ : BufTy).Contents (Elt F)),
    reshape main_v38 main_v39 (rfl : (.f32 : EltTy) = .f32) shapeCasts_S64x128x1_S64x128,
    unary main_v30 main_v40 ((Host.slice S16x128x1024 ![0, 0, 1] ![1, 1, 2] · slicesBy_S16x128x2050_S16x128x1024_0s1_0s1_1s2) : (⟨S16x128x2050, .f32⟩ : BufTy).Contents (Elt F) → (⟨S16x128x1024, .f32⟩ : BufTy).Contents (Elt F)),
    binary main_v40 main_v39 main_v41 ((fun l r => Host.dotGeneral dot_S16x128x1024_S64x128_S16x1024x64_1_1_02_0_n_n none l r) : (⟨S16x128x1024, .f32⟩ : BufTy).Contents (Elt F) → (⟨S64x128, .f32⟩ : BufTy).Contents (Elt F) → (⟨S16x1024x64, .f32⟩ : BufTy).Contents (Elt F)),
    unary main_v41 main_v42 ((transpose S16x64x1024 [0, 2, 1] · transposes_S16x1024x64_S16x64x1024_0_2_1) : (⟨S16x1024x64, .f32⟩ : BufTy).Contents (Elt F) → (⟨S16x64x1024, .f32⟩ : BufTy).Contents (Elt F)),
    binary main_v37 main_v42 main_v43 (addf : (⟨S16x64x1024, .f32⟩ : BufTy).Contents (Elt F) → (⟨S16x64x1024, .f32⟩ : BufTy).Contents (Elt F) → (⟨S16x64x1024, .f32⟩ : BufTy).Contents (Elt F)),
    unary main_arg3 main_v44 ((extractStridedSlice S64x128x1 ![0, 0, 2] · slices_S64x128x4_S64x128x1_0_0_2) : (⟨S64x128x4, .f32⟩ : BufTy).Contents (Elt F) → (⟨S64x128x1, .f32⟩ : BufTy).Contents (Elt F)),
    reshape main_v44 main_v45 (rfl : (.f32 : EltTy) = .f32) shapeCasts_S64x128x1_S64x128,
    unary main_v30 main_v46 ((Host.slice S16x128x1024 ![0, 0, 2] ![1, 1, 2] · slicesBy_S16x128x2050_S16x128x1024_0s1_0s1_2s2) : (⟨S16x128x2050, .f32⟩ : BufTy).Contents (Elt F) → (⟨S16x128x1024, .f32⟩ : BufTy).Contents (Elt F)),
    binary main_v46 main_v45 main_v47 ((fun l r => Host.dotGeneral dot_S16x128x1024_S64x128_S16x1024x64_1_1_02_0_n_n none l r) : (⟨S16x128x1024, .f32⟩ : BufTy).Contents (Elt F) → (⟨S64x128, .f32⟩ : BufTy).Contents (Elt F) → (⟨S16x1024x64, .f32⟩ : BufTy).Contents (Elt F)),
    unary main_v47 main_v48 ((transpose S16x64x1024 [0, 2, 1] · transposes_S16x1024x64_S16x64x1024_0_2_1) : (⟨S16x1024x64, .f32⟩ : BufTy).Contents (Elt F) → (⟨S16x64x1024, .f32⟩ : BufTy).Contents (Elt F)),
    binary main_v43 main_v48 main_v49 (addf : (⟨S16x64x1024, .f32⟩ : BufTy).Contents (Elt F) → (⟨S16x64x1024, .f32⟩ : BufTy).Contents (Elt F) → (⟨S16x64x1024, .f32⟩ : BufTy).Contents (Elt F)),
    unary main_arg3 main_v50 ((extractStridedSlice S64x128x1 ![0, 0, 3] · slices_S64x128x4_S64x128x1_0_0_3) : (⟨S64x128x4, .f32⟩ : BufTy).Contents (Elt F) → (⟨S64x128x1, .f32⟩ : BufTy).Contents (Elt F)),
    reshape main_v50 main_v51 (rfl : (.f32 : EltTy) = .f32) shapeCasts_S64x128x1_S64x128,
    unary main_v30 main_v52 ((Host.slice S16x128x1024 ![0, 0, 3] ![1, 1, 2] · slicesBy_S16x128x2050_S16x128x1024_0s1_0s1_3s2) : (⟨S16x128x2050, .f32⟩ : BufTy).Contents (Elt F) → (⟨S16x128x1024, .f32⟩ : BufTy).Contents (Elt F)),
    binary main_v52 main_v51 main_v53 ((fun l r => Host.dotGeneral dot_S16x128x1024_S64x128_S16x1024x64_1_1_02_0_n_n none l r) : (⟨S16x128x1024, .f32⟩ : BufTy).Contents (Elt F) → (⟨S64x128, .f32⟩ : BufTy).Contents (Elt F) → (⟨S16x1024x64, .f32⟩ : BufTy).Contents (Elt F)),
    unary main_v53 main_v54 ((transpose S16x64x1024 [0, 2, 1] · transposes_S16x1024x64_S16x64x1024_0_2_1) : (⟨S16x1024x64, .f32⟩ : BufTy).Contents (Elt F) → (⟨S16x64x1024, .f32⟩ : BufTy).Contents (Elt F)),
    binary main_v49 main_v54 main_v55 (addf : (⟨S16x64x1024, .f32⟩ : BufTy).Contents (Elt F) → (⟨S16x64x1024, .f32⟩ : BufTy).Contents (Elt F) → (⟨S16x64x1024, .f32⟩ : BufTy).Contents (Elt F)),
    unary main_arg4 main_v56 (broadcastInDim S1x64x1 ![1] bcast_S64_S1x64x1_1 : (⟨S64, .f32⟩ : BufTy).Contents (Elt F) → (⟨S1x64x1, .f32⟩ : BufTy).Contents (Elt F)),
    unary main_v56 main_v57 (broadcastInDim S16x64x1024 ![0, 1, 2] bcast_S1x64x1_S16x64x1024_0_1_2 : (⟨S1x64x1, .f32⟩ : BufTy).Contents (Elt F) → (⟨S16x64x1024, .f32⟩ : BufTy).Contents (Elt F)),
    binary main_v55 main_v57 main_v58 (addf : (⟨S16x64x1024, .f32⟩ : BufTy).Contents (Elt F) → (⟨S16x64x1024, .f32⟩ : BufTy).Contents (Elt F) → (⟨S16x64x1024, .f32⟩ : BufTy).Contents (Elt F)),
    TRef.nullary main_call3.cst (constant S_ .f32 0x00000000#32),
    TRef.unary main_call3.cst main_call3.v0 (broadcastInDim S16x64x1024 ![] bcast_S_S16x64x1024),
    TRef.binary (.of main_v58 : TRef sig ⟨S16x64x1024, .f32⟩) main_call3.v0 main_call3.v1 maximumf ]

/-- Stage 3: the distances of every row from every code, to `%77`. -/
abbrev ops3 : List (HloOp τ sig (Elt F)) :=
  [ reshape main_v59 main_v60 (rfl : (.f32 : EltTy) = .f32) shapeCasts_S16x64x1024_S16384x64,
    binary main_v60 main_v60 main_v61 (mulf : (⟨S16384x64, .f32⟩ : BufTy).Contents (Elt F) → (⟨S16384x64, .f32⟩ : BufTy).Contents (Elt F) → (⟨S16384x64, .f32⟩ : BufTy).Contents (Elt F)),
    nullary main_cst_2 (constant S_ .f32 0x00000000#32),
    binary main_v61 main_cst_2 main_v62 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    unary main_v62 main_v63 (broadcastInDim S16384x1 ![0] bcast_S16384_S16384x1_0 : (⟨S16384, .f32⟩ : BufTy).Contents (Elt F) → (⟨S16384x1, .f32⟩ : BufTy).Contents (Elt F)),
    nullary main_cst_3 (constant S_ .f32 0x40000000#32),
    unary main_cst_3 main_v64 (broadcastInDim S16384x64 ![] bcast_S_S16384x64 : (⟨S_, .f32⟩ : BufTy).Contents (Elt F) → (⟨S16384x64, .f32⟩ : BufTy).Contents (Elt F)),
    binary main_v64 main_v60 main_v65 (mulf : (⟨S16384x64, .f32⟩ : BufTy).Contents (Elt F) → (⟨S16384x64, .f32⟩ : BufTy).Contents (Elt F) → (⟨S16384x64, .f32⟩ : BufTy).Contents (Elt F)),
    unary main_arg5 main_v66 ((transpose S64x512 [1, 0] · transposes_S512x64_S64x512_1_0) : (⟨S512x64, .f32⟩ : BufTy).Contents (Elt F) → (⟨S64x512, .f32⟩ : BufTy).Contents (Elt F)),
    binary main_v65 main_v66 main_v67 ((fun l r => Host.dotGeneral dot_S16384x64_S64x512_S16384x512_1_0_0_1_n_n none l r) : (⟨S16384x64, .f32⟩ : BufTy).Contents (Elt F) → (⟨S64x512, .f32⟩ : BufTy).Contents (Elt F) → (⟨S16384x512, .f32⟩ : BufTy).Contents (Elt F)),
    unary main_v63 main_v68 (broadcastInDim S16384x512 ![0, 1] bcast_S16384x1_S16384x512_0_1 : (⟨S16384x1, .f32⟩ : BufTy).Contents (Elt F) → (⟨S16384x512, .f32⟩ : BufTy).Contents (Elt F)),
    binary main_v68 main_v67 main_v69 (subf : (⟨S16384x512, .f32⟩ : BufTy).Contents (Elt F) → (⟨S16384x512, .f32⟩ : BufTy).Contents (Elt F) → (⟨S16384x512, .f32⟩ : BufTy).Contents (Elt F)),
    binary main_arg5 main_arg5 main_v70 (mulf : (⟨S512x64, .f32⟩ : BufTy).Contents (Elt F) → (⟨S512x64, .f32⟩ : BufTy).Contents (Elt F) → (⟨S512x64, .f32⟩ : BufTy).Contents (Elt F)),
    nullary main_cst_4 (constant S_ .f32 0x00000000#32),
    binary main_v70 main_cst_4 main_v71 ((fun x v => Host.reduceAdd x v reducesTo_S512x64_S512_d1 h_S_) : (⟨S512x64, .f32⟩ : BufTy).Contents (Elt F) → (⟨S_, .f32⟩ : BufTy).Contents (Elt F) → (⟨S512, .f32⟩ : BufTy).Contents (Elt F)),
    unary main_v71 main_v72 (broadcastInDim S1x512 ![1] bcast_S512_S1x512_1 : (⟨S512, .f32⟩ : BufTy).Contents (Elt F) → (⟨S1x512, .f32⟩ : BufTy).Contents (Elt F)),
    unary main_v72 main_v73 (broadcastInDim S16384x512 ![0, 1] bcast_S1x512_S16384x512_0_1 : (⟨S1x512, .f32⟩ : BufTy).Contents (Elt F) → (⟨S16384x512, .f32⟩ : BufTy).Contents (Elt F)),
    binary main_v69 main_v73 main_v74 (addf : (⟨S16384x512, .f32⟩ : BufTy).Contents (Elt F) → (⟨S16384x512, .f32⟩ : BufTy).Contents (Elt F) → (⟨S16384x512, .f32⟩ : BufTy).Contents (Elt F)),
    nullary main_cst_5 (constant S_ .f32 0x00000000#32),
    unary main_cst_5 main_v75 (broadcastInDim S16384x512 ![] bcast_S_S16384x512 : (⟨S_, .f32⟩ : BufTy).Contents (Elt F) → (⟨S16384x512, .f32⟩ : BufTy).Contents (Elt F)),
    binary main_v74 main_v75 main_v76 (maximumf : (⟨S16384x512, .f32⟩ : BufTy).Contents (Elt F) → (⟨S16384x512, .f32⟩ : BufTy).Contents (Elt F) → (⟨S16384x512, .f32⟩ : BufTy).Contents (Elt F)),
    unary main_v76 main_v77 (Host.sqrt : (⟨S16384x512, .f32⟩ : BufTy).Contents (Elt F) → (⟨S16384x512, .f32⟩ : BufTy).Contents (Elt F)) ]

/-- Stage 4: the nearest code's index `%78` and the codes taken, to `%80`. -/
abbrev ops4 : List (HloOp τ sig (Elt F)) :=
  [ TRef.nullary main_call4.v0 (iotaInDim S16384x512 32 1),
    TRef.nullary main_call4.cst (constant S_ .f32 0x7F800000#32),
    TRef.nullary main_call4.c (constantI S_ 32 0#32),
    TRef.quaternary (.of main_v77 : TRef sig ⟨S16384x512, .f32⟩) main_call4.v0 main_call4.cst main_call4.c main_call4.v1_0 (fun x y u v j => (Host.argReduce reducer_argmin_f32_i32 x y u v reducesTo_S16384x512_S16384_d1 h_S_ j).1),
    TRef.quaternary (.of main_v77 : TRef sig ⟨S16384x512, .f32⟩) main_call4.v0 main_call4.cst main_call4.c main_call4.v1_1 (fun x y u v j => (Host.argReduce reducer_argmin_f32_i32 x y u v reducesTo_S16384x512_S16384_d1 h_S_ j).2),
    TRef.nullary main_call5.c (constantI S_ 32 0#32),
    TRef.unary main_call5.c main_call5.v0 (broadcastInDim S16384 ![] bcast_S_S16384),
    TRef.binary (.of main_v78 : TRef sig ⟨S16384, .i32⟩) main_call5.v0 main_call5.v1 (cmpi .slt),
    TRef.nullary main_call5.c_0 (constantI S_ 32 512#32),
    TRef.unary main_call5.c_0 main_call5.v2 (broadcastInDim S16384 ![] bcast_S_S16384),
    TRef.binary (.of main_v78 : TRef sig ⟨S16384, .i32⟩) main_call5.v2 main_call5.v3 addi,
    TRef.ternary main_call5.v1 main_call5.v3 (.of main_v78 : TRef sig ⟨S16384, .i32⟩) main_call5.call0.v0 select,
    TRef.unary main_call5.call0.v0 main_call5.v5 (broadcastInDim S16384x1 ![0] bcast_S16384_S16384x1_0),
    TRef.nullary main_call5.c_1 (constantI S1 32 511#32),
    TRef.nullary main_call5.c_2 (constantI S_ 32 0#32),
    TRef.unary main_call5.c_2 main_call5.v6 (broadcastInDim S16384x1 ![] bcast_S_S16384x1),
    TRef.binary main_call5.v5 main_call5.v6 main_call5.v7 (cmpi .sge),
    TRef.unary main_call5.c_1 main_call5.v8 (broadcastInDim S1x1 ![1] bcast_S1_S1x1_1),
    TRef.unary main_call5.v8 main_call5.v9 (broadcastInDim S16384x1 ![0, 1] bcast_S1x1_S16384x1_0_1),
    TRef.binary main_call5.v5 main_call5.v9 main_call5.v10 (cmpi .sle),
    TRef.binary main_call5.v7 main_call5.v10 main_call5.v11 andi,
    TRef.nullary main_call5.c_3 (constantI S_ 1 1#1),
    TRef.binary main_call5.v11 main_call5.c_3 main_call5.v12 (fun x v => Host.reduce IntOp.andi x v reducesTo_S16384x1_S16384_d1 h_S_),
    TRef.binary (.of main_arg5 : TRef sig ⟨S512x64, .f32⟩) main_call5.v5 main_call5.v13 (fun x i => Host.gather gather_S512x64_S16384x1_S16384x64_1_0_n_n_0_1_164 x i),
    TRef.unary main_call5.v12 main_call5.v14 (broadcastInDim S16384x64 ![0] bcast_S16384_S16384x64_0),
    TRef.nullary main_call5.cst (constant S_ .f32 0x7FC00000#32),
    TRef.unary main_call5.cst main_call5.v15 (broadcastInDim S16384x64 ![] bcast_S_S16384x64),
    TRef.ternary main_call5.v14 main_call5.v13 main_call5.v15 main_call5.v16 select,
    reshape main_v79 main_v80 (rfl : (.f32 : EltTy) = .f32) shapeCasts_S16384x64_S16x64x1024 ]

/-- Stage 5: the two code losses and their sum `%90`. -/
abbrev ops5 : List (HloOp τ sig (Elt F)) :=
  [ binary main_v80 main_v59 main_v81 (subf : (⟨S16x64x1024, .f32⟩ : BufTy).Contents (Elt F) → (⟨S16x64x1024, .f32⟩ : BufTy).Contents (Elt F) → (⟨S16x64x1024, .f32⟩ : BufTy).Contents (Elt F)),
    binary main_v81 main_v81 main_v82 (mulf : (⟨S16x64x1024, .f32⟩ : BufTy).Contents (Elt F) → (⟨S16x64x1024, .f32⟩ : BufTy).Contents (Elt F) → (⟨S16x64x1024, .f32⟩ : BufTy).Contents (Elt F)),
    nullary main_cst_6 (constant S_ .f32 0x00000000#32),
    binary main_v82 main_cst_6 main_v83 ((fun x v => Host.reduceAdd x v reducesTo_S16x64x1024_S_d0_1_2 h_S_) : (⟨S16x64x1024, .f32⟩ : BufTy).Contents (Elt F) → (⟨S_, .f32⟩ : BufTy).Contents (Elt F) → (⟨S_, .f32⟩ : BufTy).Contents (Elt F)),
    nullary main_cst_7 (constant S_ .f32 0x49800000#32),
    binary main_v83 main_cst_7 main_v84 (Host.divf : (⟨S_, .f32⟩ : BufTy).Contents (Elt F) → (⟨S_, .f32⟩ : BufTy).Contents (Elt F) → (⟨S_, .f32⟩ : BufTy).Contents (Elt F)),
    binary main_v80 main_v59 main_v85 (subf : (⟨S16x64x1024, .f32⟩ : BufTy).Contents (Elt F) → (⟨S16x64x1024, .f32⟩ : BufTy).Contents (Elt F) → (⟨S16x64x1024, .f32⟩ : BufTy).Contents (Elt F)),
    binary main_v85 main_v85 main_v86 (mulf : (⟨S16x64x1024, .f32⟩ : BufTy).Contents (Elt F) → (⟨S16x64x1024, .f32⟩ : BufTy).Contents (Elt F) → (⟨S16x64x1024, .f32⟩ : BufTy).Contents (Elt F)),
    nullary main_cst_8 (constant S_ .f32 0x00000000#32),
    binary main_v86 main_cst_8 main_v87 ((fun x v => Host.reduceAdd x v reducesTo_S16x64x1024_S_d0_1_2 h_S_) : (⟨S16x64x1024, .f32⟩ : BufTy).Contents (Elt F) → (⟨S_, .f32⟩ : BufTy).Contents (Elt F) → (⟨S_, .f32⟩ : BufTy).Contents (Elt F)),
    nullary main_cst_9 (constant S_ .f32 0x49800000#32),
    binary main_v87 main_cst_9 main_v88 (Host.divf : (⟨S_, .f32⟩ : BufTy).Contents (Elt F) → (⟨S_, .f32⟩ : BufTy).Contents (Elt F) → (⟨S_, .f32⟩ : BufTy).Contents (Elt F)),
    nullary main_cst_10 (constant S_ .f32 0x3E800000#32),
    binary main_cst_10 main_v84 main_v89 (mulf : (⟨S_, .f32⟩ : BufTy).Contents (Elt F) → (⟨S_, .f32⟩ : BufTy).Contents (Elt F) → (⟨S_, .f32⟩ : BufTy).Contents (Elt F)),
    binary main_v88 main_v89 main_v90 (addf : (⟨S_, .f32⟩ : BufTy).Contents (Elt F) → (⟨S_, .f32⟩ : BufTy).Contents (Elt F) → (⟨S_, .f32⟩ : BufTy).Contents (Elt F)) ]

/-- Stage 6: the straight-through sum and the first transposed convolution, to `%124`. -/
abbrev ops6 : List (HloOp τ sig (Elt F)) :=
  [ binary main_v80 main_v59 main_v91 (subf : (⟨S16x64x1024, .f32⟩ : BufTy).Contents (Elt F) → (⟨S16x64x1024, .f32⟩ : BufTy).Contents (Elt F) → (⟨S16x64x1024, .f32⟩ : BufTy).Contents (Elt F)),
    binary main_v59 main_v91 main_v92 (addf : (⟨S16x64x1024, .f32⟩ : BufTy).Contents (Elt F) → (⟨S16x64x1024, .f32⟩ : BufTy).Contents (Elt F) → (⟨S16x64x1024, .f32⟩ : BufTy).Contents (Elt F)),
    TRef.unary (.of main_arg6 : TRef sig ⟨S64x128x4, .f32⟩) main_call6.v0 (Host.reverse [2]),
    unary main_v93 main_v94 ((transpose S128x64x4 [1, 0, 2] · transposes_S64x128x4_S128x64x4_1_0_2) : (⟨S64x128x4, .f32⟩ : BufTy).Contents (Elt F) → (⟨S128x64x4, .f32⟩ : BufTy).Contents (Elt F)),
    nullary main_cst_11 (constant S_ .f32 0x00000000#32),
    binary main_v92 main_cst_11 main_v95 ((fun x v => pad S16x64x2051 ![0, 0, 2] ![0, 0, 2] ![0, 0, 1] x v pads_S16x64x1024_S16x64x2051_000_000_221 h_S_) : (⟨S16x64x1024, .f32⟩ : BufTy).Contents (Elt F) → (⟨S_, .f32⟩ : BufTy).Contents (Elt F) → (⟨S16x64x2051, .f32⟩ : BufTy).Contents (Elt F)),
    unary main_v94 main_v96 ((extractStridedSlice S128x64x1 ![0, 0, 0] · slices_S128x64x4_S128x64x1_0_0_0) : (⟨S128x64x4, .f32⟩ : BufTy).Contents (Elt F) → (⟨S128x64x1, .f32⟩ : BufTy).Contents (Elt F)),
    reshape main_v96 main_v97 (rfl : (.f32 : EltTy) = .f32) shapeCasts_S128x64x1_S128x64,
    unary main_v95 main_v98 ((extractStridedSlice S16x64x2048 ![0, 0, 0] · slices_S16x64x2051_S16x64x2048_0_0_0) : (⟨S16x64x2051, .f32⟩ : BufTy).Contents (Elt F) → (⟨S16x64x2048, .f32⟩ : BufTy).Contents (Elt F)),
    binary main_v98 main_v97 main_v99 ((fun l r => Host.dotGeneral dot_S16x64x2048_S128x64_S16x2048x128_1_1_02_0_n_n none l r) : (⟨S16x64x2048, .f32⟩ : BufTy).Contents (Elt F) → (⟨S128x64, .f32⟩ : BufTy).Contents (Elt F) → (⟨S16x2048x128, .f32⟩ : BufTy).Contents (Elt F)),
    unary main_v99 main_v100 ((transpose S16x128x2048 [0, 2, 1] · transposes_S16x2048x128_S16x128x2048_0_2_1) : (⟨S16x2048x128, .f32⟩ : BufTy).Contents (Elt F) → (⟨S16x128x2048, .f32⟩ : BufTy).Contents (Elt F)),
    nullary main_cst_12 (constant S_ .f32 0x00000000#32),
    unary main_cst_12 main_v101 (broadcastInDim S16x128x2048 ![] bcast_S_S16x128x2048 : (⟨S_, .f32⟩ : BufTy).Contents (Elt F) → (⟨S16x128x2048, .f32⟩ : BufTy).Contents (Elt F)),
    binary main_v101 main_v100 main_v102 (addf : (⟨S16x128x2048, .f32⟩ : BufTy).Contents (Elt F) → (⟨S16x128x2048, .f32⟩ : BufTy).Contents (Elt F) → (⟨S16x128x2048, .f32⟩ : BufTy).Contents (Elt F)),
    unary main_v94 main_v103 ((extractStridedSlice S128x64x1 ![0, 0, 1] · slices_S128x64x4_S128x64x1_0_0_1) : (⟨S128x64x4, .f32⟩ : BufTy).Contents (Elt F) → (⟨S128x64x1, .f32⟩ : BufTy).Contents (Elt F)),
    reshape main_v103 main_v104 (rfl : (.f32 : EltTy) = .f32) shapeCasts_S128x64x1_S128x64,
    unary main_v95 main_v105 ((extractStridedSlice S16x64x2048 ![0, 0, 1] · slices_S16x64x2051_S16x64x2048_0_0_1) : (⟨S16x64x2051, .f32⟩ : BufTy).Contents (Elt F) → (⟨S16x64x2048, .f32⟩ : BufTy).Contents (Elt F)),
    binary main_v105 main_v104 main_v106 ((fun l r => Host.dotGeneral dot_S16x64x2048_S128x64_S16x2048x128_1_1_02_0_n_n none l r) : (⟨S16x64x2048, .f32⟩ : BufTy).Contents (Elt F) → (⟨S128x64, .f32⟩ : BufTy).Contents (Elt F) → (⟨S16x2048x128, .f32⟩ : BufTy).Contents (Elt F)),
    unary main_v106 main_v107 ((transpose S16x128x2048 [0, 2, 1] · transposes_S16x2048x128_S16x128x2048_0_2_1) : (⟨S16x2048x128, .f32⟩ : BufTy).Contents (Elt F) → (⟨S16x128x2048, .f32⟩ : BufTy).Contents (Elt F)),
    binary main_v102 main_v107 main_v108 (addf : (⟨S16x128x2048, .f32⟩ : BufTy).Contents (Elt F) → (⟨S16x128x2048, .f32⟩ : BufTy).Contents (Elt F) → (⟨S16x128x2048, .f32⟩ : BufTy).Contents (Elt F)),
    unary main_v94 main_v109 ((extractStridedSlice S128x64x1 ![0, 0, 2] · slices_S128x64x4_S128x64x1_0_0_2) : (⟨S128x64x4, .f32⟩ : BufTy).Contents (Elt F) → (⟨S128x64x1, .f32⟩ : BufTy).Contents (Elt F)),
    reshape main_v109 main_v110 (rfl : (.f32 : EltTy) = .f32) shapeCasts_S128x64x1_S128x64,
    unary main_v95 main_v111 ((extractStridedSlice S16x64x2048 ![0, 0, 2] · slices_S16x64x2051_S16x64x2048_0_0_2) : (⟨S16x64x2051, .f32⟩ : BufTy).Contents (Elt F) → (⟨S16x64x2048, .f32⟩ : BufTy).Contents (Elt F)),
    binary main_v111 main_v110 main_v112 ((fun l r => Host.dotGeneral dot_S16x64x2048_S128x64_S16x2048x128_1_1_02_0_n_n none l r) : (⟨S16x64x2048, .f32⟩ : BufTy).Contents (Elt F) → (⟨S128x64, .f32⟩ : BufTy).Contents (Elt F) → (⟨S16x2048x128, .f32⟩ : BufTy).Contents (Elt F)),
    unary main_v112 main_v113 ((transpose S16x128x2048 [0, 2, 1] · transposes_S16x2048x128_S16x128x2048_0_2_1) : (⟨S16x2048x128, .f32⟩ : BufTy).Contents (Elt F) → (⟨S16x128x2048, .f32⟩ : BufTy).Contents (Elt F)),
    binary main_v108 main_v113 main_v114 (addf : (⟨S16x128x2048, .f32⟩ : BufTy).Contents (Elt F) → (⟨S16x128x2048, .f32⟩ : BufTy).Contents (Elt F) → (⟨S16x128x2048, .f32⟩ : BufTy).Contents (Elt F)),
    unary main_v94 main_v115 ((extractStridedSlice S128x64x1 ![0, 0, 3] · slices_S128x64x4_S128x64x1_0_0_3) : (⟨S128x64x4, .f32⟩ : BufTy).Contents (Elt F) → (⟨S128x64x1, .f32⟩ : BufTy).Contents (Elt F)),
    reshape main_v115 main_v116 (rfl : (.f32 : EltTy) = .f32) shapeCasts_S128x64x1_S128x64,
    unary main_v95 main_v117 ((extractStridedSlice S16x64x2048 ![0, 0, 3] · slices_S16x64x2051_S16x64x2048_0_0_3) : (⟨S16x64x2051, .f32⟩ : BufTy).Contents (Elt F) → (⟨S16x64x2048, .f32⟩ : BufTy).Contents (Elt F)),
    binary main_v117 main_v116 main_v118 ((fun l r => Host.dotGeneral dot_S16x64x2048_S128x64_S16x2048x128_1_1_02_0_n_n none l r) : (⟨S16x64x2048, .f32⟩ : BufTy).Contents (Elt F) → (⟨S128x64, .f32⟩ : BufTy).Contents (Elt F) → (⟨S16x2048x128, .f32⟩ : BufTy).Contents (Elt F)),
    unary main_v118 main_v119 ((transpose S16x128x2048 [0, 2, 1] · transposes_S16x2048x128_S16x128x2048_0_2_1) : (⟨S16x2048x128, .f32⟩ : BufTy).Contents (Elt F) → (⟨S16x128x2048, .f32⟩ : BufTy).Contents (Elt F)),
    binary main_v114 main_v119 main_v120 (addf : (⟨S16x128x2048, .f32⟩ : BufTy).Contents (Elt F) → (⟨S16x128x2048, .f32⟩ : BufTy).Contents (Elt F) → (⟨S16x128x2048, .f32⟩ : BufTy).Contents (Elt F)),
    unary main_arg7 main_v121 (broadcastInDim S1x128x1 ![1] bcast_S128_S1x128x1_1 : (⟨S128, .f32⟩ : BufTy).Contents (Elt F) → (⟨S1x128x1, .f32⟩ : BufTy).Contents (Elt F)),
    unary main_v121 main_v122 (broadcastInDim S16x128x2048 ![0, 1, 2] bcast_S1x128x1_S16x128x2048_0_1_2 : (⟨S1x128x1, .f32⟩ : BufTy).Contents (Elt F) → (⟨S16x128x2048, .f32⟩ : BufTy).Contents (Elt F)),
    binary main_v120 main_v122 main_v123 (addf : (⟨S16x128x2048, .f32⟩ : BufTy).Contents (Elt F) → (⟨S16x128x2048, .f32⟩ : BufTy).Contents (Elt F) → (⟨S16x128x2048, .f32⟩ : BufTy).Contents (Elt F)),
    TRef.nullary main_call7.cst (constant S_ .f32 0x00000000#32),
    TRef.unary main_call7.cst main_call7.v0 (broadcastInDim S16x128x2048 ![] bcast_S_S16x128x2048),
    TRef.binary (.of main_v123 : TRef sig ⟨S16x128x2048, .f32⟩) main_call7.v0 main_call7.v1 maximumf ]

/-- Stage 7: the second transposed convolution, to `%155`. -/
abbrev ops7 : List (HloOp τ sig (Elt F)) :=
  [ TRef.unary (.of main_arg8 : TRef sig ⟨S128x64x4, .f32⟩) main_call8.v0 (Host.reverse [2]),
    unary main_v125 main_v126 ((transpose S64x128x4 [1, 0, 2] · transposes_S128x64x4_S64x128x4_1_0_2) : (⟨S128x64x4, .f32⟩ : BufTy).Contents (Elt F) → (⟨S64x128x4, .f32⟩ : BufTy).Contents (Elt F)),
    nullary main_cst_13 (constant S_ .f32 0x00000000#32),
    binary main_v124 main_cst_13 main_v127 ((fun x v => pad S16x128x4099 ![0, 0, 2] ![0, 0, 2] ![0, 0, 1] x v pads_S16x128x2048_S16x128x4099_000_000_221 h_S_) : (⟨S16x128x2048, .f32⟩ : BufTy).Contents (Elt F) → (⟨S_, .f32⟩ : BufTy).Contents (Elt F) → (⟨S16x128x4099, .f32⟩ : BufTy).Contents (Elt F)),
    unary main_v126 main_v128 ((extractStridedSlice S64x128x1 ![0, 0, 0] · slices_S64x128x4_S64x128x1_0_0_0) : (⟨S64x128x4, .f32⟩ : BufTy).Contents (Elt F) → (⟨S64x128x1, .f32⟩ : BufTy).Contents (Elt F)),
    reshape main_v128 main_v129 (rfl : (.f32 : EltTy) = .f32) shapeCasts_S64x128x1_S64x128,
    unary main_v127 main_v130 ((extractStridedSlice S16x128x4096 ![0, 0, 0] · slices_S16x128x4099_S16x128x4096_0_0_0) : (⟨S16x128x4099, .f32⟩ : BufTy).Contents (Elt F) → (⟨S16x128x4096, .f32⟩ : BufTy).Contents (Elt F)),
    binary main_v130 main_v129 main_v131 ((fun l r => Host.dotGeneral dot_S16x128x4096_S64x128_S16x4096x64_1_1_02_0_n_n none l r) : (⟨S16x128x4096, .f32⟩ : BufTy).Contents (Elt F) → (⟨S64x128, .f32⟩ : BufTy).Contents (Elt F) → (⟨S16x4096x64, .f32⟩ : BufTy).Contents (Elt F)),
    unary main_v131 main_v132 ((transpose S16x64x4096 [0, 2, 1] · transposes_S16x4096x64_S16x64x4096_0_2_1) : (⟨S16x4096x64, .f32⟩ : BufTy).Contents (Elt F) → (⟨S16x64x4096, .f32⟩ : BufTy).Contents (Elt F)),
    nullary main_cst_14 (constant S_ .f32 0x00000000#32),
    unary main_cst_14 main_v133 (broadcastInDim S16x64x4096 ![] bcast_S_S16x64x4096 : (⟨S_, .f32⟩ : BufTy).Contents (Elt F) → (⟨S16x64x4096, .f32⟩ : BufTy).Contents (Elt F)),
    binary main_v133 main_v132 main_v134 (addf : (⟨S16x64x4096, .f32⟩ : BufTy).Contents (Elt F) → (⟨S16x64x4096, .f32⟩ : BufTy).Contents (Elt F) → (⟨S16x64x4096, .f32⟩ : BufTy).Contents (Elt F)),
    unary main_v126 main_v135 ((extractStridedSlice S64x128x1 ![0, 0, 1] · slices_S64x128x4_S64x128x1_0_0_1) : (⟨S64x128x4, .f32⟩ : BufTy).Contents (Elt F) → (⟨S64x128x1, .f32⟩ : BufTy).Contents (Elt F)),
    reshape main_v135 main_v136 (rfl : (.f32 : EltTy) = .f32) shapeCasts_S64x128x1_S64x128,
    unary main_v127 main_v137 ((extractStridedSlice S16x128x4096 ![0, 0, 1] · slices_S16x128x4099_S16x128x4096_0_0_1) : (⟨S16x128x4099, .f32⟩ : BufTy).Contents (Elt F) → (⟨S16x128x4096, .f32⟩ : BufTy).Contents (Elt F)),
    binary main_v137 main_v136 main_v138 ((fun l r => Host.dotGeneral dot_S16x128x4096_S64x128_S16x4096x64_1_1_02_0_n_n none l r) : (⟨S16x128x4096, .f32⟩ : BufTy).Contents (Elt F) → (⟨S64x128, .f32⟩ : BufTy).Contents (Elt F) → (⟨S16x4096x64, .f32⟩ : BufTy).Contents (Elt F)),
    unary main_v138 main_v139 ((transpose S16x64x4096 [0, 2, 1] · transposes_S16x4096x64_S16x64x4096_0_2_1) : (⟨S16x4096x64, .f32⟩ : BufTy).Contents (Elt F) → (⟨S16x64x4096, .f32⟩ : BufTy).Contents (Elt F)),
    binary main_v134 main_v139 main_v140 (addf : (⟨S16x64x4096, .f32⟩ : BufTy).Contents (Elt F) → (⟨S16x64x4096, .f32⟩ : BufTy).Contents (Elt F) → (⟨S16x64x4096, .f32⟩ : BufTy).Contents (Elt F)),
    unary main_v126 main_v141 ((extractStridedSlice S64x128x1 ![0, 0, 2] · slices_S64x128x4_S64x128x1_0_0_2) : (⟨S64x128x4, .f32⟩ : BufTy).Contents (Elt F) → (⟨S64x128x1, .f32⟩ : BufTy).Contents (Elt F)),
    reshape main_v141 main_v142 (rfl : (.f32 : EltTy) = .f32) shapeCasts_S64x128x1_S64x128,
    unary main_v127 main_v143 ((extractStridedSlice S16x128x4096 ![0, 0, 2] · slices_S16x128x4099_S16x128x4096_0_0_2) : (⟨S16x128x4099, .f32⟩ : BufTy).Contents (Elt F) → (⟨S16x128x4096, .f32⟩ : BufTy).Contents (Elt F)),
    binary main_v143 main_v142 main_v144 ((fun l r => Host.dotGeneral dot_S16x128x4096_S64x128_S16x4096x64_1_1_02_0_n_n none l r) : (⟨S16x128x4096, .f32⟩ : BufTy).Contents (Elt F) → (⟨S64x128, .f32⟩ : BufTy).Contents (Elt F) → (⟨S16x4096x64, .f32⟩ : BufTy).Contents (Elt F)),
    unary main_v144 main_v145 ((transpose S16x64x4096 [0, 2, 1] · transposes_S16x4096x64_S16x64x4096_0_2_1) : (⟨S16x4096x64, .f32⟩ : BufTy).Contents (Elt F) → (⟨S16x64x4096, .f32⟩ : BufTy).Contents (Elt F)),
    binary main_v140 main_v145 main_v146 (addf : (⟨S16x64x4096, .f32⟩ : BufTy).Contents (Elt F) → (⟨S16x64x4096, .f32⟩ : BufTy).Contents (Elt F) → (⟨S16x64x4096, .f32⟩ : BufTy).Contents (Elt F)),
    unary main_v126 main_v147 ((extractStridedSlice S64x128x1 ![0, 0, 3] · slices_S64x128x4_S64x128x1_0_0_3) : (⟨S64x128x4, .f32⟩ : BufTy).Contents (Elt F) → (⟨S64x128x1, .f32⟩ : BufTy).Contents (Elt F)),
    reshape main_v147 main_v148 (rfl : (.f32 : EltTy) = .f32) shapeCasts_S64x128x1_S64x128,
    unary main_v127 main_v149 ((extractStridedSlice S16x128x4096 ![0, 0, 3] · slices_S16x128x4099_S16x128x4096_0_0_3) : (⟨S16x128x4099, .f32⟩ : BufTy).Contents (Elt F) → (⟨S16x128x4096, .f32⟩ : BufTy).Contents (Elt F)),
    binary main_v149 main_v148 main_v150 ((fun l r => Host.dotGeneral dot_S16x128x4096_S64x128_S16x4096x64_1_1_02_0_n_n none l r) : (⟨S16x128x4096, .f32⟩ : BufTy).Contents (Elt F) → (⟨S64x128, .f32⟩ : BufTy).Contents (Elt F) → (⟨S16x4096x64, .f32⟩ : BufTy).Contents (Elt F)),
    unary main_v150 main_v151 ((transpose S16x64x4096 [0, 2, 1] · transposes_S16x4096x64_S16x64x4096_0_2_1) : (⟨S16x4096x64, .f32⟩ : BufTy).Contents (Elt F) → (⟨S16x64x4096, .f32⟩ : BufTy).Contents (Elt F)),
    binary main_v146 main_v151 main_v152 (addf : (⟨S16x64x4096, .f32⟩ : BufTy).Contents (Elt F) → (⟨S16x64x4096, .f32⟩ : BufTy).Contents (Elt F) → (⟨S16x64x4096, .f32⟩ : BufTy).Contents (Elt F)),
    unary main_arg9 main_v153 (broadcastInDim S1x64x1 ![1] bcast_S64_S1x64x1_1 : (⟨S64, .f32⟩ : BufTy).Contents (Elt F) → (⟨S1x64x1, .f32⟩ : BufTy).Contents (Elt F)),
    unary main_v153 main_v154 (broadcastInDim S16x64x4096 ![0, 1, 2] bcast_S1x64x1_S16x64x4096_0_1_2 : (⟨S1x64x1, .f32⟩ : BufTy).Contents (Elt F) → (⟨S16x64x4096, .f32⟩ : BufTy).Contents (Elt F)),
    binary main_v152 main_v154 main_v155 (addf : (⟨S16x64x4096, .f32⟩ : BufTy).Contents (Elt F) → (⟨S16x64x4096, .f32⟩ : BufTy).Contents (Elt F) → (⟨S16x64x4096, .f32⟩ : BufTy).Contents (Elt F)) ]

/-- Stage 8: the reconstruction loss and the total `%160`. -/
abbrev ops8 : List (HloOp τ sig (Elt F)) :=
  [ binary main_v155 main_arg0 main_v156 (subf : (⟨S16x64x4096, .f32⟩ : BufTy).Contents (Elt F) → (⟨S16x64x4096, .f32⟩ : BufTy).Contents (Elt F) → (⟨S16x64x4096, .f32⟩ : BufTy).Contents (Elt F)),
    binary main_v156 main_v156 main_v157 (mulf : (⟨S16x64x4096, .f32⟩ : BufTy).Contents (Elt F) → (⟨S16x64x4096, .f32⟩ : BufTy).Contents (Elt F) → (⟨S16x64x4096, .f32⟩ : BufTy).Contents (Elt F)),
    nullary main_cst_15 (constant S_ .f32 0x00000000#32),
    binary main_v157 main_cst_15 main_v158 ((fun x v => Host.reduceAdd x v reducesTo_S16x64x4096_S_d0_1_2 h_S_) : (⟨S16x64x4096, .f32⟩ : BufTy).Contents (Elt F) → (⟨S_, .f32⟩ : BufTy).Contents (Elt F) → (⟨S_, .f32⟩ : BufTy).Contents (Elt F)),
    nullary main_cst_16 (constant S_ .f32 0x4A800000#32),
    binary main_v158 main_cst_16 main_v159 (Host.divf : (⟨S_, .f32⟩ : BufTy).Contents (Elt F) → (⟨S_, .f32⟩ : BufTy).Contents (Elt F) → (⟨S_, .f32⟩ : BufTy).Contents (Elt F)),
    binary main_v159 main_v90 main_v160 (addf : (⟨S_, .f32⟩ : BufTy).Contents (Elt F) → (⟨S_, .f32⟩ : BufTy).Contents (Elt F) → (⟨S_, .f32⟩ : BufTy).Contents (Elt F)) ]

/-- @main's operations, in order. -/
abbrev ops : List (HloOp τ sig (Elt F)) :=
  ops1 ++ (ops2 ++ (ops3 ++ (ops4 ++ (ops5 ++ (ops6 ++ (ops7 ++ ops8))))))

/-- @main is that straight line. -/
theorem main_eq (c : Dev nD) : main (F := F) c = seq ops := rfl

/-- Nothing is scoped on this signature. -/
theorem scopedRefs_eq : (Finset.univ.filter fun b : Ref sig .tc => b.isScoped) = ∅ := by decide
theorem scopedSems_eq : (Finset.univ.filter fun sm : SemLoc sig => sm.isScoped .tc) = ∅ := by decide

/-- The contents after two lists in turn. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih _

/-- Every weakly fair execution of @main terminates, with every buffer at the operations' results folded over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_hlo _ _ main_eq scopedRefs_eq scopedSems_eq (by simp)
    (by intro _ h; (repeat (cases h with | head => rfl | tail _ h => ?_)); exact nomatch h) m ρ

end Cert.Proof.Ref

end
-- ==== Proof.RefFrame.lean ====
/-
  The reference leaves its argument arrays as they were: no operation of any of its stages writes one.
-/
module

public import proofs.«01_k».proof.Proof.RefRun
public import Idealize.ShloMosaic.Lib.Quiescent

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The ten argument arrays. -/
abbrev args : List (Ref sig .tc) :=
  [main_arg0, main_arg1, main_arg2, main_arg3, main_arg4, main_arg5, main_arg6, main_arg7, main_arg8, main_arg9]

/-- No operation of the run writes an argument array. -/
theorem args_not_written :
    ∀ op ∈ (ops : List (HloOp τ sig (Elt F))), ∀ r ∈ args, Proc.devRef (τ := τ) .tc r ∉ op.writes := by
  exact of_decide_eq_true (by rfl)

/-- A part of the run leaves the argument arrays as they were. -/
theorem keeps {l : List (HloOp τ sig (Elt F))} (hl : l ⊆ ops) {r : Ref sig .tc} (hr : r ∈ args)
    (V : Valuation τ sig (Elt F)) : after l V (Proc.devRef .tc r) = V (Proc.devRef .tc r) :=
  after_of_forall_not_mem l V fun op hop => args_not_written op (hl hop) r hr

/-- Every run of the reference ends with its arguments unchanged and its semaphore counters at zero. -/
theorem frame (m : (ℓ : Loc nD τ sig) → Buf (Elt F) ℓ) (ρ : Dev nD → PrngReg) :
    θ_run defs (onTc (τ := τ) (main (F := F))) ⟨m, fun _ => 0, ρ⟩ fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9))
      ∧ r.2.sem = fun _ => 0 := by
  refine (θ_run defs _ _).mono (fun r h => ⟨fun c => ?_, sem_eq_zero_of_no_sems (by decide) r.2⟩) (run_main (F := F) m ρ)
  refine ⟨?_, ?_, ?_, ?_, ?_, ?_, ?_, ?_, ?_, ?_⟩ <;> exact (h c _).trans (keeps (fun _ h => h) (by decide) _)

end Cert.Proof.Ref

end
-- ==== Proof.RefConv.lean ====
/-
  What the reference's two convolutions compute: stage 1 leaves `Spec.conv` of the input, stage 2 `Spec.conv` of what
  stage 1 left.
-/
module

public import proofs.«01_k».proof.Proof.RefRun
public import proofs.«01_k».proof.Proof.Spec
public import Idealize.ShloMosaic.Lib.StableHlo.ReadAt
public import Idealize.ShloMosaic.Lib.Pointwise

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo Idealize.SL.Sem
open Cert.Proof.Spec

/-- The integer zero as a float is zero. -/
theorem sitofp_zero : (FloatOps.sitofp FTy.f32 0#32 : Ideal .f32) = (0 : EReal) := by
  simp [FloatOps.sitofp]

/-- Two sums of five terms clamped at zero, equal term by term. -/
theorem max_add5 {a b c d e a' b' c' d' e' : EReal} (ha : a = a') (hb : b = b') (hc : c = c') (hd : d = d') (he : e = e') :
    max (a + b + c + d + e) 0 = max (a' + b' + c' + d' + e') 0 := by
  rw [ha, hb, hc, hd, he]

set_option backward.isDefEq.respectTransparency false in
/-- Stage 1 leaves the convolution of `X`, the contents of the first argument, with the weights `W` and the bias `B`. -/
theorem stage1 (V : Valuation τ sig (Elt Ideal)) {X : ℕ → ℕ → ℕ → EReal} {W : ℕ → ℕ → ℕ → EReal} {B : ℕ → EReal}
    (hX : ∀ (b : Fin 16) (c : Fin 64) (t : Fin 4096), V (Proc.devRef .tc main_arg0) (ix3 b c t) = X b c t)
    (hX0 : ∀ b c t, 4096 ≤ t → X b c t = 0)
    (hW : ∀ (o : Fin 128) (i : Fin 64) (j : Fin 4), V (Proc.devRef .tc main_arg1) (ix3 o i j) = W o i j)
    (hB : ∀ o : Fin 128, V (Proc.devRef .tc main_arg2) (ix1 o) = B o)
    (b : Fin 16) (o : Fin 128) (t : Fin 2048) :
    after ops1 V (Proc.devRef .tc main_v29) (ix3 b o t) = conv 64 2048 (X b) W B o t := by
  rw [conv_eq t.isLt]
  after_reads_at
  refine max_add5 ?_ ?_ ?_ ?_ (hB o) <;>
  · refine Finset.sum_congr rfl fun i _ => congrArg₂ (· * ·) ?_ (hW _ _ _)
    unfold pd
    split_ifs with h h' <;>
      first
        | exact h'.elim
        | omega
        | exact sitofp_zero
        | exact sitofp_zero.trans (hX0 _ _ _ (by omega)).symm
        | exact (hX _ _ _).trans (congrArg (X b i) (by first | rfl | (dsimp only; omega)))

set_option backward.isDefEq.respectTransparency false in
/-- Stage 2 leaves the convolution of `X`, what stage 1 left, with the weights `W` and the bias `B`. -/
theorem stage2 (V : Valuation τ sig (Elt Ideal)) {X : ℕ → ℕ → ℕ → EReal} {W : ℕ → ℕ → ℕ → EReal} {B : ℕ → EReal}
    (hX : ∀ (b : Fin 16) (c : Fin 128) (t : Fin 2048), V (Proc.devRef .tc main_v29) (ix3 b c t) = X b c t)
    (hX0 : ∀ b c t, 2048 ≤ t → X b c t = 0)
    (hW : ∀ (o : Fin 64) (i : Fin 128) (j : Fin 4), V (Proc.devRef .tc main_arg3) (ix3 o i j) = W o i j)
    (hB : ∀ o : Fin 64, V (Proc.devRef .tc main_arg4) (ix1 o) = B o)
    (b : Fin 16) (o : Fin 64) (t : Fin 1024) :
    after ops2 V (Proc.devRef .tc main_v59) (ix3 b o t) = conv 128 1024 (X b) W B o t := by
  rw [conv_eq t.isLt]
  after_reads_at
  refine max_add5 ?_ ?_ ?_ ?_ (hB o) <;>
  · refine Finset.sum_congr rfl fun i _ => congrArg₂ (· * ·) ?_ (hW _ _ _)
    unfold pd
    split_ifs with h h' <;>
      first
        | exact h'.elim
        | omega
        | exact sitofp_zero
        | exact sitofp_zero.trans (hX0 _ _ _ (by omega)).symm
        | exact (hX _ _ _).trans (congrArg (X b i) (by first | rfl | (dsimp only; omega)))

end Cert.Proof.Ref

end
-- ==== Proof.Argmin.lean ====
/-
  The reference's choice of a code: the two-operand reduction of a row of distances leaves the first code of least
  distance, and the take of that code's row reads the codebook.
-/
module

public import proofs.«01_k».proof.Proof.RefConv
public import proofs.«01_k».proof.Proof.BatchVq

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo Idealize.SL.Sem
open Cert.Proof.Spec

/-- A pair of a value and an index comes before another: by value, then by index. -/
def Before (a b : EReal × BitVec 32) : Prop := a.1 < b.1 ∨ a.1 = b.1 ∧ a.2.toInt ≤ b.2.toInt

theorem Before.refl (a : EReal × BitVec 32) : Before a a := .inr ⟨rfl, le_refl _⟩

theorem Before.trans {a b c : EReal × BitVec 32} (h : Before a b) (h' : Before b c) : Before a c := by
  rcases h with h | ⟨h, g⟩ <;> rcases h' with h' | ⟨h', g'⟩
  · exact .inl (h.trans h')
  · exact .inl (h'.symm ▸ h)
  · exact .inl (h.symm ▸ h')
  · exact .inr ⟨h.trans h', g.trans g'⟩

theorem one_or (v : BitVec 1) : 1#1 ||| v = 1#1 := by
  revert v; decide

/-- The reduction's body keeps one of its pairs, which comes before both. -/
theorem argmin_body (a b : EReal × BitVec 32) :
    (reducer_argmin_f32_i32 (F := Ideal) a b = a ∨ reducer_argmin_f32_i32 (F := Ideal) a b = b) ∧
      Before (reducer_argmin_f32_i32 (F := Ideal) a b) a ∧ Before (reducer_argmin_f32_i32 (F := Ideal) a b) b := by
  obtain ⟨x, i⟩ := a
  obtain ⟨y, j⟩ := b
  rcases lt_trichotomy x y with h | h | h
  · have e : reducer_argmin_f32_i32 (F := Ideal) (x, i) (y, j) = (x, i) := by
      simp [reducer_argmin_f32_i32, Ideal.cmpf_def, Ideal.cmp, h, Scalar.select, IntOp.ori, IntOp.andi, one_or]
    rw [e]
    exact ⟨.inl rfl, .refl _, .inl h⟩
  · subst h
    by_cases g : i.toInt < j.toInt
    · have e : reducer_argmin_f32_i32 (F := Ideal) (x, i) (x, j) = (x, i) := by
        simp [reducer_argmin_f32_i32, Ideal.cmpf_def, Ideal.cmp, Scalar.select, IntOp.ori, IntOp.andi, IntOp.cmpi,
          BitVec.slt_eq_decide, g]
      rw [e]
      exact ⟨.inl rfl, .refl _, .inr ⟨rfl, g.le⟩⟩
    · have e : reducer_argmin_f32_i32 (F := Ideal) (x, i) (x, j) = (x, j) := by
        simp [reducer_argmin_f32_i32, Ideal.cmpf_def, Ideal.cmp, Scalar.select, IntOp.ori, IntOp.andi, IntOp.cmpi,
          BitVec.slt_eq_decide, g]
      rw [e]
      exact ⟨.inr rfl, .inr ⟨rfl, not_lt.mp g⟩, .refl _⟩
  · have e : reducer_argmin_f32_i32 (F := Ideal) (x, i) (y, j) = (y, j) := by
      simp [reducer_argmin_f32_i32, Ideal.cmpf_def, Ideal.cmp, h.not_gt, h.ne', Scalar.select, IntOp.ori, IntOp.andi]
    rw [e]
    exact ⟨.inr rfl, .inl h, .refl _⟩

/-- The fold of a list by such a body is the start or a member, and comes before the start and every member. -/
theorem fold_before {f : EReal × BitVec 32 → EReal × BitVec 32 → EReal × BitVec 32}
    (hf : ∀ a b, (f a b = a ∨ f a b = b) ∧ Before (f a b) a ∧ Before (f a b) b) (L : List (EReal × BitVec 32)) :
    ∀ a, (L.foldl f a = a ∨ L.foldl f a ∈ L) ∧ Before (L.foldl f a) a ∧ ∀ p ∈ L, Before (L.foldl f a) p := by
  induction L with
  | nil => exact fun a => ⟨.inl rfl, .refl a, fun _ h => absurd h List.not_mem_nil⟩
  | cons p L ih =>
    intro a
    obtain ⟨h1, h2, h3⟩ := ih (f a p)
    obtain ⟨g1, g2, g3⟩ := hf a p
    refine ⟨?_, h2.trans g2, fun q hq => ?_⟩
    · rcases h1 with h1 | h1
      · rcases g1 with g1 | g1
        · exact .inl (h1.trans g1)
        · exact .inr (List.mem_cons.mpr (.inl (h1.trans g1)))
      · exact .inr (List.mem_cons.mpr (.inr h1))
    · rcases List.mem_cons.mp hq with rfl | hq
      · exact h2.trans g3
      · exact h3 q hq

/-- The pairs folded at row `r`. -/
theorem mem_fiber {x : S16384x512.Idx → EReal} {y : S16384x512.Idx → BitVec 32} {r : Fin 16384} {p : EReal × BitVec 32} :
    p ∈ Host.argReduceFiber x y reducesTo_S16384x512_S16384_d1 (ix1 r) ↔ ∃ k : Fin 512, p = (x (ix2 r k), y (ix2 r k)) := by
  unfold Host.argReduceFiber
  rw [List.mem_map]
  constructor
  · rintro ⟨n, hn, rfl⟩
    have hd := of_decide_eq_true (List.mem_filter.mp hn).2
    generalize S16384x512.rowMajor.symm n = i at hd ⊢
    have hi : i = ix2 r (i 1) := by
      funext a
      refine Fin.ext ?_
      have h0 := congrArg (fun j : S16384.Idx => (j 0).val) hd
      match a with
      | ⟨0, _⟩ => exact h0
      | ⟨1, _⟩ => rfl
    exact ⟨i 1, congrArg (fun i => (x i, y i)) hi⟩
  · rintro ⟨k, rfl⟩
    refine ⟨S16384x512.rowMajor (ix2 r k), List.mem_filter.mpr ⟨List.mem_finRange _, ?_⟩, by rw [Equiv.symm_apply_apply]⟩
    rw [Equiv.symm_apply_apply]
    refine decide_eq_true (funext fun a => Fin.ext ?_)
    match a with
    | ⟨0, _⟩ => rfl

/-- The index the reduction leaves at row `r` is the first code of least distance, the distances being below `⊤`. -/
theorem argmin_first {x : FVec Ideal S16384x512 .f32} {r : Fin 16384} {D : ℕ → EReal}
    (hD : ∀ k : Fin 512, x (ix2 r k) = D k) (hlt : ∀ k < 512, D k < ⊤) :
    ∃ k, First D k ∧ (Host.argReduce reducer_argmin_f32_i32 x (iotaInDim S16384x512 32 1)
      (constant (F := Ideal) S_ .f32 0x7F800000#32) (constantI S_ 32 0#32) reducesTo_S16384x512_S16384_d1 h_S_ (ix1 r)).2
        = BitVec.ofNat 32 k := by
  rw [Ideal.argReduce_eq_reduce2, Host.reduce2_eq_foldl_fiber]
  have h := fold_before argmin_body (Host.argReduceFiber x (iotaInDim S16384x512 32 1) reducesTo_S16384x512_S16384_d1 (ix1 r))
    (constant (F := Ideal) S_ .f32 0x7F800000#32 (Shape.Idx.first h_S_), constantI S_ 32 0#32 (Shape.Idx.first h_S_))
  have hinit : constant (F := Ideal) S_ .f32 0x7F800000#32 (Shape.Idx.first h_S_) = (⊤ : EReal) := Batch.ofBits_inf
  obtain ⟨h1, -, h3⟩ := h
  have hp : ∀ k : Fin 512, Before _ (D k, BitVec.ofNat 32 k) := fun k =>
    h3 (D k, BitVec.ofNat 32 k) (mem_fiber.mpr ⟨k, Prod.ext (hD k).symm rfl⟩)
  rcases h1 with h1 | h1
  · exfalso
    have h0 := hp 0
    rw [h1, hinit] at h0
    rcases h0 with h0 | h0
    · exact absurd h0 not_top_lt
    · exact absurd h0.1 (hlt 0 (by omega)).ne'
  · obtain ⟨k, hk⟩ := mem_fiber.mp h1
    rw [hk] at hp ⊢
    have hp' : ∀ j (hj : j < 512), D k < D j ∨ D k = D j ∧ k.val ≤ j := fun j hj => by
      have := hp ⟨j, hj⟩
      rcases this with h | h
      · exact .inl ((hD k).symm ▸ h)
      · refine .inr ⟨(hD k).symm.trans h.1, ?_⟩
        have h2 : (BitVec.ofNat 32 k.val).toInt ≤ (BitVec.ofNat 32 j).toInt := h.2
        rw [Batch.toInt_small k.isLt.le, Batch.toInt_small hj.le] at h2
        exact_mod_cast h2
    refine ⟨k, ⟨k.isLt, fun j hj => ?_, fun j hj => ?_⟩, rfl⟩
    · rcases hp' j hj with h | h
      · exact h.le
      · exact h.1.le
    · rcases hp' j (hj.trans k.isLt) with h | h
      · exact h
      · omega

/-- The take of a row reads the table at the clamped start index. -/
theorem take_row (x : S512x64.Idx → EReal) (idx : IVec S16384x1 32) (r : Fin 16384) (l : Fin 64) {k : ℕ} (hk : k < 512)
    (h : idx (ix2 r (0 : Fin 1)) = BitVec.ofNat 32 k) :
    Host.gather gather_S512x64_S16384x1_S16384x64_1_0_n_n_0_1_164 x idx (ix2 r l) = x (ix2 (⟨k, hk⟩ : Fin 512) l) := by
  unfold Host.gather
  congr 1
  funext a
  refine Fin.ext ?_
  change GatherDims.start _ _ _ a + GatherDims.batchCoord _ _ a + GatherDims.offCoord _ _ a = _
  have h01 : a = 0 ∨ a = 1 := by
    match a with
    | ⟨0, _⟩ => exact Or.inl rfl
    | ⟨1, _⟩ => exact Or.inr rfl
  rw [GatherDims.batchCoord_eq_zero _ _ _ List.not_mem_nil]
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S512x64_S16384x1_S16384x64_1_0_n_n_0_1_164.startIndexMap from List.mem_singleton.mpr rfl)]
    have hsi : gather_S512x64_S16384x1_S16384x64_1_0_n_n_0_1_164.siIdx (ix2 r l)
        ⟨List.idxOf (0 : Fin 2) gather_S512x64_S16384x1_S16384x64_1_0_n_n_0_1_164.startIndexMap,
          List.idxOf_lt_length_iff.2 (List.mem_singleton.mpr rfl)⟩ = ix2 r (0 : Fin 1) := by
      funext b; refine Fin.ext ?_
      match b with
      | ⟨0, _⟩ => rfl
      | ⟨1, _⟩ => rfl
    rw [hsi, h, Batch.toInt_small hk.le]
    change min k (512 - 1) + 0 + 0 = k
    omega
  · unfold GatherDims.start
    rw [dif_neg (by decide)]
    rw [Nat.zero_add]
    unfold GatherDims.offCoord
    rw [dif_pos (by decide)]
    rfl

end Cert.Proof.Ref

end
-- ==== Proof.Nearest.lean ====
/-
  Finite values: on reals the reference's distances order the codes as the kernel's scores do, and the
  straight-through sum is the code.
-/
module

public import proofs.«01_k».proof.Proof.Model
public import Mathlib.Analysis.SpecialFunctions.Pow.Real

@[expose] public section

noncomputable section

namespace Cert.Proof.Spec

/-- A value that is a real number. -/
def IsReal (a : EReal) : Prop := ∃ r : ℝ, a = (r : EReal)

theorem IsReal.zero : IsReal 0 := ⟨0, rfl⟩

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.sub {a b : EReal} (ha : IsReal a) (hb : IsReal b) : IsReal (a - b) := by
  obtain ⟨r, rfl⟩ := ha
  obtain ⟨s, rfl⟩ := hb
  exact ⟨r - s, (EReal.coe_sub r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.max {a b : EReal} (ha : IsReal a) (hb : IsReal b) : IsReal (max a b) := by
  rcases max_choice a b with h | h <;> rw [h] <;> assumption

theorem IsReal.sum {ι : Type} (s : Finset ι) {f : ι → EReal} (h : ∀ i ∈ s, IsReal (f i)) : IsReal (∑ i ∈ s, f i) := by
  classical
  induction s using Finset.induction_on with
  | empty => exact IsReal.zero
  | insert a s ha ih =>
    rw [Finset.sum_insert ha]
    exact (h a (Finset.mem_insert_self a s)).add (ih fun i hi => h i (Finset.mem_insert_of_mem hi))

/-- The straight-through sum of a real is the code. -/
theorem add_sub_real {a b : EReal} (ha : IsReal a) (hb : IsReal b) : a + (b - a) = b := by
  obtain ⟨r, rfl⟩ := ha
  obtain ⟨s, rfl⟩ := hb
  rw [← EReal.coe_sub, ← EReal.coe_add, add_sub_cancel]

/-- A convolution of reals is real. -/
theorem IsReal.conv {n T : ℕ} {x : ℕ → ℕ → EReal} {w : ℕ → ℕ → ℕ → EReal} {b : ℕ → EReal}
    (hx : ∀ c t, IsReal (x c t)) (hw : ∀ o i j, IsReal (w o i j)) (hb : ∀ o, IsReal (b o)) (o t : ℕ) :
    IsReal (conv n T x w b o t) := by
  have hp : ∀ c p, IsReal (pd x c p) := fun c p => by
    unfold pd
    split_ifs
    · exact .zero
    · exact hx _ _
  have ht : ∀ j, IsReal (tap n x w o t j) := fun j => .sum _ fun i _ => (hp _ _).mul (hw _ _ _)
  unfold Spec.conv
  split_ifs
  · exact ((((ht 0).add (ht 1)).add ((ht 2).add (ht 3))).add (hb o)).max .zero
  · exact .zero

/-- The encoder's values are real. -/
structure Weights.Finite (P : Weights) : Prop where
  w1 : ∀ o i j, IsReal (P.w1 o i j)
  b1 : ∀ o, IsReal (P.b1 o)
  w2 : ∀ o i j, IsReal (P.w2 o i j)
  b2 : ∀ o, IsReal (P.b2 o)
  cb : ∀ k l, IsReal (P.cb k l)

theorem Weights.Finite.latent {P : Weights} (h : P.Finite) {X : ℕ → ℕ → EReal} (hX : ∀ c t, IsReal (X c t)) (c t : ℕ) :
    IsReal (P.latent X c t) :=
  .conv (fun c t => .conv hX h.w1 h.b1 c t) h.w2 h.b2 c t

/-- A sum of reals as a real sum. -/
theorem coe_sum {n : ℕ} (f : Fin n → ℝ) : ∑ i, (f i : EReal) = ((∑ i, f i : ℝ) : EReal) :=
  (map_sum (⟨⟨Real.toEReal, EReal.coe_zero⟩, EReal.coe_add⟩ : ℝ →+ EReal) f Finset.univ).symm

/-- The squared distance as the reference writes it. -/
def dist2 (f : ℕ → EReal) (cb : ℕ → ℕ → EReal) (k : ℕ) : EReal :=
  (∑ l : Fin 64, f l * f l) - (∑ l : Fin 64, 2 * f l * cb k l) + ∑ l : Fin 64, cb k l * cb k l

/-- On reals the squared distance is a real at least zero, and the score plus the row's squared norm. -/
theorem dist2_real {f : ℕ → EReal} {cb : ℕ → ℕ → EReal} (hf : ∀ l, IsReal (f l)) (hc : ∀ k l, IsReal (cb k l)) :
    ∃ (n : ℝ) (s : ℕ → ℝ), ∀ k, score f cb k = (s k : EReal) ∧ dist2 f cb k = ((n + s k : ℝ) : EReal) ∧ 0 ≤ n + s k := by
  choose f' hf' using hf
  choose c' hc' using hc
  refine ⟨∑ l : Fin 64, f' l * f' l, fun k => (∑ l : Fin 64, c' k l * c' k l) - ((∑ l : Fin 64, f' l * c' k l) + ∑ l : Fin 64, f' l * c' k l), fun k => ⟨?_, ?_, ?_⟩⟩
  · unfold score
    simp only [hf', hc', ← EReal.coe_mul, coe_sum, ← EReal.coe_add, ← EReal.coe_sub]
  · unfold dist2
    have h2 : (2 : EReal) = ((2 : ℝ) : EReal) := rfl
    simp only [hf', hc', h2, ← EReal.coe_mul, coe_sum, ← EReal.coe_add, ← EReal.coe_sub]
    congr 1
    have : ∑ l : Fin 64, 2 * f' l * c' k l = 2 * ∑ l : Fin 64, f' l * c' k l := by
      rw [Finset.mul_sum]; exact Finset.sum_congr rfl fun l _ => mul_assoc _ _ _
    rw [this]; ring
  · have : (∑ l : Fin 64, f' l * f' l) + ((∑ l : Fin 64, c' k l * c' k l) - ((∑ l : Fin 64, f' l * c' k l) + ∑ l : Fin 64, f' l * c' k l))
        = ∑ l : Fin 64, (f' l - c' k l) ^ 2 := by
      rw [← Finset.sum_add_distrib, ← Finset.sum_sub_distrib, ← Finset.sum_add_distrib]
      exact Finset.sum_congr rfl fun l _ => by ring
    rw [this]
    exact Finset.sum_nonneg fun l _ => sq_nonneg _

end Cert.Proof.Spec

end
-- ==== Proof.RefVq.lean ====
/-
  The reference's quantiser: stage 4 replaces each row of the latent by the code the kernel picks.
-/
module

public import proofs.«01_k».proof.Proof.Argmin
public import proofs.«01_k».proof.Proof.Nearest

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo Idealize.SL.Sem
open Cert.Proof.Spec

/-- The distances order the codes as the scores do, and are reals. -/
theorem dist_order {f : ℕ → EReal} {cb : ℕ → ℕ → EReal} (hf : ∀ l, IsReal (f l)) (hc : ∀ k l, IsReal (cb k l)) :
    (∀ k, Ideal.sqrt (max (dist2 f cb k) 0) < ⊤) ∧
      ∀ k, First (fun k => Ideal.sqrt (max (dist2 f cb k) 0)) k → k = pick f cb := by
  obtain ⟨n, s, h⟩ := dist2_real hf hc
  have hd : ∀ k, Ideal.sqrt (max (dist2 f cb k) 0) = ((Real.sqrt (n + s k) : ℝ) : EReal) := fun k => by
    obtain ⟨-, h2, h3⟩ := h k
    rw [h2, max_eq_left (EReal.coe_nonneg.mpr h3)]
    change (if n + s k < 0 then (⊥ : EReal) else ((Real.sqrt (n + s k) : ℝ) : EReal)) = _
    rw [if_neg (not_lt.mpr h3)]
  refine ⟨fun k => hd k ▸ EReal.coe_lt_top _, fun k hk => ?_⟩
  refine First.unique (First.congr (fun i _ j _ => ?_) hk) (pick_first f cb)
  rw [hd, hd, (h i).1, (h j).1, EReal.coe_le_coe_iff, EReal.coe_le_coe_iff, Real.sqrt_le_sqrt_iff (h j).2.2]
  exact add_le_add_iff_left n

/-- The wrapped index of a code in range is the code. -/
theorem wrap_code {k : ℕ} (hk : k < 512) :
    Scalar.select (IntOp.cmpi .slt (BitVec.ofNat 32 k) 0#32) (IntOp.addi (BitVec.ofNat 32 k) 512#32) (BitVec.ofNat 32 k) = BitVec.ofNat 32 k := by
  have : ¬ (BitVec.ofNat 32 k).toInt < (0#32 : BitVec 32).toInt := by
    rw [Batch.toInt_small hk.le]
    simp
  simp only [Scalar.select, IntOp.cmpi, BitVec.slt_eq_decide, this, decide_false, BitVec.ofBool_false]
  exact if_neg (by decide)

/-- A code's index passes the range test. -/
theorem code_in_range {k : ℕ} (hk : k < 512) :
    IntOp.andi (IntOp.cmpi .sge (BitVec.ofNat 32 k) 0#32) (IntOp.cmpi .sle (BitVec.ofNat 32 k) 511#32) = 1#1 := by
  have h0 : (0#32 : BitVec 32).toInt ≤ (BitVec.ofNat 32 k).toInt := by
    rw [Batch.toInt_small hk.le]
    simp
  have h1 : (BitVec.ofNat 32 k).toInt ≤ (511#32 : BitVec 32).toInt := by
    rw [Batch.toInt_small hk.le, show (511#32 : BitVec 32).toInt = 511 by decide]
    omega
  simp only [IntOp.cmpi, BitVec.sle_eq_decide, h0, h1, decide_true, BitVec.ofBool_true]
  decide

/-- The conjunction of bits all set is set. -/
theorem fold_ones {ι : Type} (s : Finset ι) : s.fold IntOp.andi (1#1) (fun _ => 1#1) = 1#1 := by
  classical
  induction s using Finset.induction_on with
  | empty => rfl
  | insert a s ha ih => rw [Finset.fold_insert ha, ih]; decide

set_option backward.isDefEq.respectTransparency false in
/-- Stage 4 leaves, at each row, the first code of least distance. -/
theorem stage4 (V : Valuation τ sig (Elt Ideal)) {D : ℕ → ℕ → EReal} {C : ℕ → ℕ → EReal}
    (hD : ∀ (r : Fin 16384) (k : Fin 512), V (Proc.devRef .tc main_v77) (ix2 r k) = D r k)
    (hlt : ∀ r k, D r k < ⊤)
    (hC : ∀ (k : Fin 512) (l : Fin 64), V (Proc.devRef .tc main_arg5) (ix2 k l) = C k l)
    {p : ℕ → ℕ} (hp : ∀ (r : Fin 16384) k, First (D r) k → k = p r)
    (b : Fin 16) (c : Fin 64) (t : Fin 1024) :
    after ops4 V (Proc.devRef .tc main_v80) (ix3 b c t) = C (p (b * 1024 + c * 16 + t / 64)) (t % 64) := by
  after_reads_at
  obtain ⟨k, hk, e⟩ := argmin_first (r := (⟨b.val * 1024 + c.val * 16 + t.val / 64, by omega⟩ : Fin 16384)) (hD _) (fun k _ => hlt _ k)
  obtain rfl := hp _ k hk
  have hw := wrap_code hk.1
  simp only [e, hw, code_in_range hk.1, fold_ones]
  refine Eq.trans (if_pos rfl) ((take_row _ _ _ _ hk.1 ?_).trans (hC _ _))
  pointwise
  rw [e]
  exact hw

end Cert.Proof.Ref

end
-- ==== Proof.RefDec.lean ====
/-
  The reference's decoder: a dilated, padded sequence met by flipped taps is the transposed convolution of the
  mathematics.
-/
module

public import proofs.«01_k».proof.Proof.RefConv

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo Idealize.SL.Sem
open Cert.Proof.Spec

/-- Of four sums, the second and fourth are zero. -/
theorem four_even {a b c d e a' c' e' : EReal} (hb : b = 0) (hd : d = 0) (ha : a = a') (hc : c = c') (he : e = e') :
    a + b + c + d + e = c' + a' + e' := by
  rw [hb, hd, ha, hc, he, add_zero, add_zero, add_comm a' c']

/-- Of four sums, the first and third are zero. -/
theorem four_odd {a b c d e b' d' e' : EReal} (ha : a = 0) (hc : c = 0) (hb : b = b') (hd : d = d') (he : e = e') :
    a + b + c + d + e = d' + b' + e' := by
  rw [ha, hc, hb, hd, he, zero_add, add_zero, add_comm b' d']

/-- The dilated, padded sequence at an even position `p` holds the shifted sequence's position `k`, `p = 2 * k`. -/
theorem dilated {n T : ℕ} {Y : Fin 16 → Fin n → Fin T → EReal} {X : ℕ → ℕ → ℕ → EReal}
    (hX : ∀ (b : Fin 16) (c : Fin n) (t : Fin T), Y b c t = X b c t) (hX0 : ∀ b c t, T ≤ t → X b c t = 0)
    (b : Fin 16) (i : Fin n) (p k : ℕ) (h : p = 2 * k) :
    (if h : 2 ≤ p ∧ (p - 2) % 2 = 0 ∧ (p - 2) / 2 < T then Y b i ⟨(p - 2) / 2, h.2.2⟩ else 0) = pd (X b) i k := by
  subst h
  unfold pd
  split_ifs with h h' h'
  · omega
  · rw [hX]; exact congrArg (X b i) (by dsimp only; omega)
  · rfl
  · exact (hX0 _ _ _ (by omega)).symm

/-- The same two positions on. -/
theorem dilated_mid {n T : ℕ} {Y : Fin 16 → Fin n → Fin T → EReal} {X : ℕ → ℕ → ℕ → EReal}
    (hX : ∀ (b : Fin 16) (c : Fin n) (t : Fin T), Y b c t = X b c t) (hX0 : ∀ b c t, T ≤ t → X b c t = 0)
    (b : Fin 16) (i : Fin n) (p k : ℕ) (h : p + 2 = 2 * k) :
    (if h : p % 2 = 0 ∧ p / 2 < T then Y b i ⟨p / 2, h.2⟩ else 0) = pd (X b) i k := by
  obtain rfl : k = p / 2 + 1 := by omega
  unfold pd
  rw [if_neg (by omega)]
  split_ifs with h'
  · exact hX _ _ _
  · exact (hX0 _ _ _ (by omega)).symm

set_option backward.isDefEq.respectTransparency false in
/-- Stage 7 leaves the second transposed convolution of what stage 6 left. -/
theorem stage7 (V : Valuation τ sig (Elt Ideal)) {X : ℕ → ℕ → ℕ → EReal} {W : ℕ → ℕ → ℕ → EReal} {B : ℕ → EReal}
    (hX : ∀ (b : Fin 16) (c : Fin 128) (t : Fin 2048), V (Proc.devRef .tc main_v124) (ix3 b c t) = X b c t)
    (hX0 : ∀ b c t, 2048 ≤ t → X b c t = 0)
    (hW : ∀ (i : Fin 128) (o : Fin 64) (j : Fin 4), V (Proc.devRef .tc main_arg8) (ix3 i o j) = W i o j)
    (hB : ∀ o : Fin 64, V (Proc.devRef .tc main_arg9) (ix1 o) = B o)
    (b : Fin 16) (o : Fin 64) (t : Fin 4096) :
    after ops7 V (Proc.devRef .tc main_v155) (ix3 b o t) = deconv 128 (X b) W B o t := by
  after_reads_at
  by_cases ht : t.val % 2 = 0
  · refine (four_even ?_ ?_ ?_ ?_ (hB o)).trans (if_pos ht).symm
    · exact Finset.sum_eq_zero fun i _ => by rw [dif_neg (by omega), zero_mul]
    · exact Finset.sum_eq_zero fun i _ => by rw [dif_neg (by omega), zero_mul]
    all_goals
      refine Finset.sum_congr rfl fun i _ => congrArg₂ (· * ·) ?_ (hW i o _)
      first
        | refine dilated hX hX0 b i _ _ ?_
          omega
        | refine dilated_mid hX hX0 b i _ _ ?_
          omega
  · refine (four_odd ?_ ?_ ?_ ?_ (hB o)).trans (if_neg ht).symm
    · exact Finset.sum_eq_zero fun i _ => by rw [dif_neg (by omega), zero_mul]
    · exact Finset.sum_eq_zero fun i _ => by rw [dif_neg (by omega), zero_mul]
    all_goals
      refine Finset.sum_congr rfl fun i _ => congrArg₂ (· * ·) ?_ (hW i o _)
      first
        | refine dilated hX hX0 b i _ _ ?_
          omega
        | refine dilated_mid hX hX0 b i _ _ ?_
          omega

set_option backward.isDefEq.respectTransparency false in
/-- Stage 6 leaves the first transposed convolution of the straight-through sum, clamped at zero. -/
theorem stage6 (V : Valuation τ sig (Elt Ideal)) {X : ℕ → ℕ → ℕ → EReal} {W : ℕ → ℕ → ℕ → EReal} {B : ℕ → EReal}
    {Z Q : ℕ → ℕ → ℕ → EReal}
    (hZ : ∀ (b : Fin 16) (c : Fin 64) (t : Fin 1024), V (Proc.devRef .tc main_v59) (ix3 b c t) = Z b c t)
    (hQ : ∀ (b : Fin 16) (c : Fin 64) (t : Fin 1024), V (Proc.devRef .tc main_v80) (ix3 b c t) = Q b c t)
    (hX : ∀ (b : Fin 16) (c : Fin 64) (t : Fin 1024), Z b c t + (Q b c t - Z b c t) = X b c t)
    (hX0 : ∀ b c t, 1024 ≤ t → X b c t = 0)
    (hW : ∀ (i : Fin 64) (o : Fin 128) (j : Fin 4), V (Proc.devRef .tc main_arg6) (ix3 i o j) = W i o j)
    (hB : ∀ o : Fin 128, V (Proc.devRef .tc main_arg7) (ix1 o) = B o)
    (b : Fin 16) (o : Fin 128) (t : Fin 2048) :
    after ops6 V (Proc.devRef .tc main_v124) (ix3 b o t) = dconv 64 2048 (X b) W B o t := by
  rw [dconv, if_pos t.isLt]
  after_reads_at
  refine congrArg (max · 0) ?_
  by_cases ht : t.val % 2 = 0
  · refine (four_even ?_ ?_ ?_ ?_ (hB o)).trans (if_pos ht).symm
    · exact Finset.sum_eq_zero fun i _ => by rw [dif_neg (by omega), zero_mul]
    · exact Finset.sum_eq_zero fun i _ => by rw [dif_neg (by omega), zero_mul]
    all_goals
      refine Finset.sum_congr rfl fun i _ => congrArg₂ (· * ·) ?_ (hW i o _)
      first
        | refine dilated (fun b c t => (congrArg₂ (fun x y : EReal => x + (y - x)) (hZ b c t) (hQ b c t)).trans (hX b c t)) hX0 b i _ _ ?_
          omega
        | refine dilated_mid (fun b c t => (congrArg₂ (fun x y : EReal => x + (y - x)) (hZ b c t) (hQ b c t)).trans (hX b c t)) hX0 b i _ _ ?_
          omega
  · refine (four_odd ?_ ?_ ?_ ?_ (hB o)).trans (if_neg ht).symm
    · exact Finset.sum_eq_zero fun i _ => by rw [dif_neg (by omega), zero_mul]
    · exact Finset.sum_eq_zero fun i _ => by rw [dif_neg (by omega), zero_mul]
    all_goals
      refine Finset.sum_congr rfl fun i _ => congrArg₂ (· * ·) ?_ (hW i o _)
      first
        | refine dilated (fun b c t => (congrArg₂ (fun x y : EReal => x + (y - x)) (hZ b c t) (hQ b c t)).trans (hX b c t)) hX0 b i _ _ ?_
          omega
        | refine dilated_mid (fun b c t => (congrArg₂ (fun x y : EReal => x + (y - x)) (hZ b c t) (hQ b c t)).trans (hX b c t)) hX0 b i _ _ ?_
          omega

end Cert.Proof.Ref

end
-- ==== Proof.RefLoss.lean ====
/-
  The reference's distances and its two losses, each as a plain sum.
-/
module

public import proofs.«01_k».proof.Proof.RefConv
public import proofs.«01_k».proof.Proof.Nearest

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo Idealize.SL.Sem
open Cert.Proof.Spec

theorem ofBits_two : Ideal.ofBits FTy.f32 1073741824#32 = 2 := by
  simp [Ideal.ofBits, Ideal.ieee]
  rw [← EReal.coe_mul]
  exact congrArg Real.toEReal (show (8388608 * (2 ^ 22)⁻¹ : ℝ) = 2 by norm_num)

theorem ofBits_quarter : Ideal.ofBits FTy.f32 1048576000#32 = ((1 / 4 : ℝ) : EReal) := by
  simp [Ideal.ofBits, Ideal.ieee]
  rw [← EReal.coe_mul]
  exact congrArg Real.toEReal (show (8388608 * (2 ^ 25)⁻¹ : ℝ) = 4⁻¹ by norm_num)

/-- The number of the latent's elements. -/
theorem ofBits_count : Ideal.ofBits FTy.f32 1233125376#32 = ((1048576 : ℝ) : EReal) := by
  simp [Ideal.ofBits, Ideal.ieee]
  rw [← EReal.coe_mul]
  exact congrArg Real.toEReal (show (8388608 * (2 ^ 3)⁻¹ : ℝ) = 1048576 by norm_num)

set_option backward.isDefEq.respectTransparency false in
/-- Stage 3 leaves the distance of each row of the latent to each code. -/
theorem stage3 (V : Valuation τ sig (Elt Ideal)) {Z : ℕ → ℕ → ℕ → EReal} {C : ℕ → ℕ → EReal}
    (hZ : ∀ (b : Fin 16) (c : Fin 64) (t : Fin 1024), V (Proc.devRef .tc main_v59) (ix3 b c t) = Z b c t)
    (hC : ∀ (k : Fin 512) (l : Fin 64), V (Proc.devRef .tc main_arg5) (ix2 k l) = C k l)
    (r : Fin 16384) (k : Fin 512) :
    after ops3 V (Proc.devRef .tc main_v77) (ix2 r k)
      = Ideal.sqrt (max (dist2 (row (Z (r / 1024)) (r % 1024)) C k) 0) := by
  after_reads_at
  refine congrArg (fun d => Ideal.sqrt (max d 0)) ?_
  have hv : ∀ l : Fin 64, V (Proc.devRef .tc main_v59) (ix3 (⟨r.val / 1024, by omega⟩ : Fin 16) (⟨r.val / 16 % 64, by omega⟩ : Fin 64)
      (⟨r.val % 16 * 64 + l.val, by omega⟩ : Fin 1024)) = row (Z (r / 1024)) (r % 1024) l := fun l =>
    (hZ _ _ _).trans (congrArg₂ (Z (r / 1024)) (by dsimp only; omega) (by dsimp only; omega))
  unfold dist2
  refine congrArg₂ (· + ·) (congrArg₂ (· - ·) ?_ ?_) ?_ <;> refine Finset.sum_congr rfl fun l _ => ?_
  · rw [hv]
  · rw [hv, hC, ofBits_two]
  · rw [hC]

set_option backward.isDefEq.respectTransparency false in
/-- Stage 5 leaves the quantiser's loss. -/
theorem stage5 (V : Valuation τ sig (Elt Ideal)) {Z Q : ℕ → ℕ → ℕ → EReal}
    (hZ : ∀ (b : Fin 16) (c : Fin 64) (t : Fin 1024), V (Proc.devRef .tc main_v59) (ix3 b c t) = Z b c t)
    (hQ : ∀ (b : Fin 16) (c : Fin 64) (t : Fin 1024), V (Proc.devRef .tc main_v80) (ix3 b c t) = Q b c t) :
    after ops5 V (Proc.devRef .tc main_v90) ix0
      = Ideal.div (∑ b : Fin 16, ∑ c : Fin 64, ∑ t : Fin 1024, (Q b c t - Z b c t) * (Q b c t - Z b c t)) (Ideal.ofBits FTy.f32 1233125376#32)
        + Ideal.ofBits FTy.f32 1048576000#32 *
          Ideal.div (∑ b : Fin 16, ∑ c : Fin 64, ∑ t : Fin 1024, (Q b c t - Z b c t) * (Q b c t - Z b c t)) (Ideal.ofBits FTy.f32 1233125376#32) := by
  after_reads_at
  simp only [hZ, hQ]

set_option backward.isDefEq.respectTransparency false in
/-- Stage 8 leaves the whole loss. -/
theorem stage8 (V : Valuation τ sig (Elt Ideal)) {X Y : ℕ → ℕ → ℕ → EReal} {q : EReal}
    (hX : ∀ (b : Fin 16) (c : Fin 64) (t : Fin 4096), V (Proc.devRef .tc main_arg0) (ix3 b c t) = X b c t)
    (hY : ∀ (b : Fin 16) (c : Fin 64) (t : Fin 4096), V (Proc.devRef .tc main_v155) (ix3 b c t) = Y b c t)
    (hq : V (Proc.devRef .tc main_v90) ix0 = q) :
    after ops8 V (Proc.devRef .tc main_v160) ix0
      = Ideal.div (∑ b : Fin 16, ∑ c : Fin 64, ∑ t : Fin 4096, (Y b c t - X b c t) * (Y b c t - X b c t)) (Ideal.ofBits FTy.f32 1249902592#32) + q := by
  after_reads_at
  simp only [hX, hY, hq]

end Cert.Proof.Ref

end
-- ==== Proof.RefAll.lean ====
/-
  The reference's two results: its stages in turn, each over what the stages before it left.
-/
module

public import proofs.«01_k».proof.Proof.RefFrame
public import proofs.«01_k».proof.Proof.RefVq
public import proofs.«01_k».proof.Proof.RefDec
public import proofs.«01_k».proof.Proof.RefLoss
public import proofs.«01_k».proof.Proof.Arrays

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo Idealize.SL.Sem
open Cert.Proof.Spec

variable (V : Valuation τ sig (Elt Ideal))

/-- The contents after the first stages. -/
abbrev V1 : Valuation τ sig (Elt Ideal) := after ops1 V
abbrev V2 : Valuation τ sig (Elt Ideal) := after ops2 (V1 V)
abbrev V3 : Valuation τ sig (Elt Ideal) := after ops3 (V2 V)
abbrev V4 : Valuation τ sig (Elt Ideal) := after ops4 (V3 V)
abbrev V5 : Valuation τ sig (Elt Ideal) := after ops5 (V4 V)
abbrev V6 : Valuation τ sig (Elt Ideal) := after ops6 (V5 V)
abbrev V7 : Valuation τ sig (Elt Ideal) := after ops7 (V6 V)

/-- The whole run is the last stage after the others. -/
theorem after_ops : after ops V = after ops8 (V7 V) := by
  rw [ops, after_append, after_append, after_append, after_append, after_append, after_append, after_append]

/-! The argument arrays after each stage. -/

section Args
variable {r : Ref sig .tc} (hr : r ∈ args)
include hr

theorem arg1 : V1 V (Proc.devRef .tc r) = V (Proc.devRef .tc r) :=
  keeps (fun _ h => List.mem_append.mpr (.inl h)) hr V
theorem arg2 : V2 V (Proc.devRef .tc r) = V (Proc.devRef .tc r) :=
  (keeps (fun _ h => List.mem_append.mpr (.inr (List.mem_append.mpr (.inl h)))) hr _).trans (arg1 V hr)
theorem arg3 : V3 V (Proc.devRef .tc r) = V (Proc.devRef .tc r) :=
  (keeps (fun _ h => List.mem_append.mpr (.inr (List.mem_append.mpr (.inr (List.mem_append.mpr (.inl h)))))) hr _).trans (arg2 V hr)
theorem arg4 : V4 V (Proc.devRef .tc r) = V (Proc.devRef .tc r) :=
  (keeps (fun _ h => List.mem_append.mpr (.inr (List.mem_append.mpr (.inr (List.mem_append.mpr (.inr (List.mem_append.mpr (.inl h)))))))) hr _).trans (arg3 V hr)
theorem arg5 : V5 V (Proc.devRef .tc r) = V (Proc.devRef .tc r) :=
  (keeps (fun _ h => List.mem_append.mpr (.inr (List.mem_append.mpr (.inr (List.mem_append.mpr (.inr (List.mem_append.mpr (.inr (List.mem_append.mpr (.inl h)))))))))) hr _).trans (arg4 V hr)
theorem arg6 : V6 V (Proc.devRef .tc r) = V (Proc.devRef .tc r) :=
  (keeps (fun _ h => List.mem_append.mpr (.inr (List.mem_append.mpr (.inr (List.mem_append.mpr (.inr (List.mem_append.mpr (.inr (List.mem_append.mpr (.inr (List.mem_append.mpr (.inl h)))))))))))) hr _).trans (arg5 V hr)
theorem arg7 : V7 V (Proc.devRef .tc r) = V (Proc.devRef .tc r) :=
  (keeps (fun _ h => List.mem_append.mpr (.inr (List.mem_append.mpr (.inr (List.mem_append.mpr (.inr (List.mem_append.mpr (.inr (List.mem_append.mpr (.inr (List.mem_append.mpr (.inr (List.mem_append.mpr (.inl h)))))))))))))) hr _).trans (arg6 V hr)

end Args

/-- The input sequences. -/
abbrev seqs : ℕ → ℕ → ℕ → EReal := at3 (V (Proc.devRef .tc main_arg0))

/-- The weights the argument arrays hold. -/
abbrev wts : Weights :=
  weights (V (Proc.devRef .tc main_arg1)) (V (Proc.devRef .tc main_arg2)) (V (Proc.devRef .tc main_arg3))
    (V (Proc.devRef .tc main_arg4)) (V (Proc.devRef .tc main_arg5)) (V (Proc.devRef .tc main_arg6))
    (V (Proc.devRef .tc main_arg7)) (V (Proc.devRef .tc main_arg8)) (V (Proc.devRef .tc main_arg9))

/-- Stages 1 and 2 leave the latent. -/
theorem latent_eq (b : Fin 16) (c : Fin 64) (t : Fin 1024) :
    V2 V (Proc.devRef .tc main_v59) (ix3 b c t) = (wts V).latent (seqs V b) c t := by
  refine stage2 (V1 V) (X := fun b => (wts V).hidden (seqs V b)) (fun b c t => ?_)
    (fun b c t h => if_neg (not_lt.mpr h))
    (fun o i j => (congrFun (arg1 V (by decide)) _).trans (at3_eq _ o i j))
    (fun o => (congrFun (arg1 V (by decide)) _).trans (at1_eq _ o)) b c t
  exact stage1 V (fun b c t => at3_eq _ b c t) (fun b c t h => at3_out _ b c t h) (fun o i j => at3_eq _ o i j)
    (fun o => at1_eq _ o) b c t

theorem latent3 (b : Fin 16) (c : Fin 64) (t : Fin 1024) :
    V3 V (Proc.devRef .tc main_v59) (ix3 b c t) = (wts V).latent (seqs V b) c t :=
  (congrFun (after_of_forall_not_mem ops3 (V2 V) (of_decide_eq_true (by rfl))) _).trans (latent_eq V b c t)
theorem latent4 (b : Fin 16) (c : Fin 64) (t : Fin 1024) :
    V4 V (Proc.devRef .tc main_v59) (ix3 b c t) = (wts V).latent (seqs V b) c t :=
  (congrFun (after_of_forall_not_mem ops4 (V3 V) (of_decide_eq_true (by rfl))) _).trans (latent3 V b c t)
theorem latent5 (b : Fin 16) (c : Fin 64) (t : Fin 1024) :
    V5 V (Proc.devRef .tc main_v59) (ix3 b c t) = (wts V).latent (seqs V b) c t :=
  (congrFun (after_of_forall_not_mem ops5 (V4 V) (of_decide_eq_true (by rfl))) _).trans (latent4 V b c t)

/-- The quantised latent. -/
abbrev code (b : ℕ) : ℕ → ℕ → EReal := unrow (quant ((wts V).latent (seqs V b)) (wts V).cb)

variable {V} (hP : (wts V).Finite) (hX : ∀ b c t, IsReal (seqs V b c t))
include hP hX

/-- Stages 3 and 4 leave the quantised latent. -/
theorem code_eq (b : Fin 16) (c : Fin 64) (t : Fin 1024) :
    V4 V (Proc.devRef .tc main_v80) (ix3 b c t) = code V b c t := by
  have ho := fun r : ℕ => dist_order (f := row ((wts V).latent (seqs V (r / 1024))) (r % 1024)) (cb := (wts V).cb)
    (fun l => hP.latent (hX _) _ _) hP.cb
  refine (stage4 (V3 V) (C := (wts V).cb)
    (D := fun r k => Ideal.sqrt (max (dist2 (row ((wts V).latent (seqs V (r / 1024))) (r % 1024)) (wts V).cb k) 0))
    (p := fun r => pick (row ((wts V).latent (seqs V (r / 1024))) (r % 1024)) (wts V).cb)
    (stage3 (V2 V) (Z := fun b => (wts V).latent (seqs V b)) (C := (wts V).cb) (latent_eq V) (fun k l => (congrFun (arg2 V (by decide)) _).trans (at2_eq _ k l)))
    (fun r k => (ho r).1 k) (fun k l => (congrFun (arg3 V (by decide)) _).trans (at2_eq _ k l))
    (fun r k h => (ho r).2 k h) b c t).trans ?_
  unfold code unrow quant
  rw [if_pos t.isLt]
  have e1 : (b.val * 1024 + c.val * 16 + t.val / 64) / 1024 = b.val := by omega
  have e2 : (b.val * 1024 + c.val * 16 + t.val / 64) % 1024 = 16 * c.val + t.val / 64 := by omega
  rw [e1, e2]

theorem code5 (b : Fin 16) (c : Fin 64) (t : Fin 1024) : V5 V (Proc.devRef .tc main_v80) (ix3 b c t) = code V b c t :=
  (congrFun (after_of_forall_not_mem ops5 (V4 V) (of_decide_eq_true (by rfl))) _).trans (code_eq hP hX b c t)

/-- Stages 6 and 7 leave the reconstruction. -/
theorem recon7 (b : Fin 16) (o : Fin 64) (t : Fin 4096) :
    V7 V (Proc.devRef .tc main_v155) (ix3 b o t) = (wts V).recon (seqs V b) o t := by
  refine stage7 (V6 V) (X := fun b => (wts V).expand (seqs V b)) (fun b c t => ?_) (fun b c t h => if_neg (not_lt.mpr h))
    (fun i o j => (congrFun (arg6 V (by decide)) _).trans (at3_eq _ i o j))
    (fun o => (congrFun (arg6 V (by decide)) _).trans (at1_eq _ o)) b o t
  refine stage6 (V5 V) (X := code V) (Z := fun b => (wts V).latent (seqs V b)) (Q := code V) (latent5 V) (code5 hP hX) (fun b c t => ?_) (fun b c t h => if_neg (not_lt.mpr h))
    (fun i o j => (congrFun (arg5 V (by decide)) _).trans (at3_eq _ i o j))
    (fun o => (congrFun (arg5 V (by decide)) _).trans (at1_eq _ o)) b c t
  refine add_sub_real (hP.latent (hX _) _ _) ?_
  unfold code unrow
  split_ifs
  · exact hP.cb _ _
  · exact .zero

/-- The first result. -/
theorem ref_recon (b : Fin 16) (o : Fin 64) (t : Fin 4096) :
    after ops V (Proc.devRef .tc main_v155) (ix3 b o t) = (wts V).recon (seqs V b) o t := by
  rw [after_ops]
  exact (congrFun (after_of_forall_not_mem ops8 (V7 V) (of_decide_eq_true (by rfl))) _).trans (recon7 hP hX b o t)

/-- The second result: the mean squared error, and the quantiser's mean squared error once and a quarter. -/
theorem ref_loss :
    after ops V (Proc.devRef .tc main_v160) ix0
      = Ideal.div (∑ b : Fin 16, ∑ c : Fin 64, ∑ t : Fin 4096, ((wts V).recon (seqs V b) c t - seqs V b c t) * ((wts V).recon (seqs V b) c t - seqs V b c t))
          (Ideal.ofBits FTy.f32 1249902592#32)
        + (Ideal.div (∑ b : Fin 16, ∑ c : Fin 64, ∑ t : Fin 1024, (code V b c t - (wts V).latent (seqs V b) c t) * (code V b c t - (wts V).latent (seqs V b) c t))
            (Ideal.ofBits FTy.f32 1233125376#32)
          + Ideal.ofBits FTy.f32 1048576000#32 *
            Ideal.div (∑ b : Fin 16, ∑ c : Fin 64, ∑ t : Fin 1024, (code V b c t - (wts V).latent (seqs V b) c t) * (code V b c t - (wts V).latent (seqs V b) c t))
              (Ideal.ofBits FTy.f32 1233125376#32)) := by
  rw [after_ops]
  refine stage8 (V7 V) (X := seqs V) (Y := fun b => (wts V).recon (seqs V b))
    (fun b c t => (congrFun (arg7 V (by decide)) _).trans (at3_eq _ b c t)) (recon7 hP hX) ?_
  refine (congrFun (after_of_forall_not_mem ops7 (V6 V) (of_decide_eq_true (by rfl))) _).trans ?_
  refine (congrFun (after_of_forall_not_mem ops6 (V5 V) (of_decide_eq_true (by rfl))) _).trans ?_
  exact stage5 (V4 V) (Z := fun b => (wts V).latent (seqs V b)) (Q := code V) (latent4 V) (code_eq hP hX)

end Cert.Proof.Ref

end
-- ==== Proof.Sums.lean ====
/-
  The sums of the two squared errors in the reference's order and in the kernel's, and the two forms of the loss.
-/
module

public import proofs.«01_k».proof.Proof.Nearest
public import proofs.«01_k».proof.Proof.RefLoss

@[expose] public section

noncomputable section

namespace Cert.Proof.Spec

open Idealize.ShloMosaic

/-- A sum over `m * n` positions by blocks of `n`. -/
theorem sum_blocks (m n : ℕ) (g : ℕ → EReal) : ∑ t : Fin (m * n), g t = ∑ i : Fin m, ∑ j : Fin n, g (j + n * i) := by
  rw [← Fintype.sum_prod_type', ← finProdFinEquiv.sum_comp]
  rfl

/-- A sum over channels and steps as a sum over rows and lanes. -/
theorem sum_rows (f : ℕ → ℕ → EReal) :
    ∑ c : Fin 64, ∑ t : Fin 1024, f (16 * c + t / 64) (t % 64) = ∑ r : Fin 1024, ∑ l : Fin 64, f r l := by
  rw [show (∑ r : Fin 1024, ∑ l : Fin 64, f r l) = _ from sum_blocks 64 16 fun r => ∑ l : Fin 64, f r l]
  refine Finset.sum_congr rfl fun c _ => ?_
  rw [show (∑ t : Fin 1024, f (16 * c + t / 64) (t % 64)) = _ from sum_blocks 16 64 fun t => f (16 * c + t / 64) (t % 64)]
  refine Finset.sum_congr rfl fun q _ => Finset.sum_congr rfl fun l _ => congrArg₂ f ?_ ?_ <;> omega

/-- A sum over channels and steps as the even steps' and the odd steps'. -/
theorem sum_parity (g : ℕ → ℕ → EReal) :
    ∑ c : Fin 64, ∑ t : Fin 4096, g c t
      = (∑ j : Fin 2048, ∑ o : Fin 64, g o (2 * j)) + ∑ j : Fin 2048, ∑ o : Fin 64, g o (2 * j + 1) := by
  have h : ∀ c : Fin 64, ∑ t : Fin 4096, g c t = ∑ j : Fin 2048, (g c (2 * j) + g c (2 * j + 1)) := fun c => by
    rw [show (∑ t : Fin 4096, g c t) = _ from sum_blocks 2048 2 fun t => g c t]
    refine Finset.sum_congr rfl fun j _ => ?_
    rw [Fin.sum_univ_two]
    refine congrArg₂ (fun a b => g c a + g c b) ?_ ?_ <;> simp [add_comm]
  rw [Finset.sum_congr rfl fun c _ => h c, Finset.sum_comm, ← Finset.sum_add_distrib]
  exact Finset.sum_congr rfl fun j _ => Finset.sum_add_distrib

variable (P : Weights) (X : ℕ → ℕ → EReal)

/-- The quantiser's squared error by channels and steps. -/
theorem quantErr_eq :
    ∑ c : Fin 64, ∑ t : Fin 1024, (unrow (quant (P.latent X) P.cb) c t - P.latent X c t) * (unrow (quant (P.latent X) P.cb) c t - P.latent X c t)
      = P.quantErr X := by
  unfold Weights.quantErr
  rw [← sum_rows fun r l => (quant (P.latent X) P.cb r l - row (P.latent X) r l) * (quant (P.latent X) P.cb r l - row (P.latent X) r l)]
  refine Finset.sum_congr rfl fun c _ => Finset.sum_congr rfl fun t _ => ?_
  have h : row (P.latent X) (16 * c + t / 64) (t % 64) = P.latent X c t := by
    unfold row
    exact congrArg₂ (P.latent X) (by omega) (by omega)
  rw [h, unrow, if_pos t.isLt]

/-- The reconstruction's squared error by channels and steps. -/
theorem reconErr_eq :
    ∑ c : Fin 64, ∑ t : Fin 4096, (P.recon X c t - X c t) * (P.recon X c t - X c t) = P.reconErr X :=
  sum_parity fun c t => (P.recon X c t - X c t) * (P.recon X c t - X c t)

variable {P X}

/-- The quantiser's squared error is real. -/
theorem quantErr_real (hP : P.Finite) (hX : ∀ c t, IsReal (X c t)) : IsReal (P.quantErr X) := by
  have h : ∀ r l, IsReal (quant (P.latent X) P.cb r l - row (P.latent X) r l) := fun r l => (hP.cb _ _).sub (hP.latent hX _ _)
  exact .sum _ fun r _ => .sum _ fun l _ => (h r l).mul (h r l)

theorem ofBits_five_quarters : Ideal.ofBits FTy.f32 1067450368#32 = ((5 / 4 : ℝ) : EReal) := by
  simp [Ideal.ofBits, Ideal.ieee]
  rw [← EReal.coe_mul]
  exact congrArg Real.toEReal (show (10485760 * (2 ^ 23)⁻¹ : ℝ) = 5 / 4 by norm_num)

/-- A real divided by the number of the latent's elements. -/
theorem div_count (s : ℝ) : Ideal.div (s : EReal) (Ideal.ofBits FTy.f32 1233125376#32) = ((s * (1048576 : ℝ)⁻¹ : ℝ) : EReal) := by
  rw [Ref.ofBits_count, Ideal.div, if_neg (by exact_mod_cast (by norm_num : (1048576 : ℝ) ≠ 0)), ← EReal.coe_inv, ← EReal.coe_mul]

/-- One and a quarter times a real, and the real and a quarter of it, divided by the number of elements. -/
theorem quarter_eq {s : EReal} (hs : IsReal s) :
    Ideal.div s (Ideal.ofBits FTy.f32 1233125376#32) + Ideal.ofBits FTy.f32 1048576000#32 * Ideal.div s (Ideal.ofBits FTy.f32 1233125376#32)
      = Ideal.div (Ideal.ofBits FTy.f32 1067450368#32 * s) (Ideal.ofBits FTy.f32 1233125376#32) := by
  obtain ⟨r, rfl⟩ := hs
  rw [ofBits_five_quarters, ← EReal.coe_mul, div_count, div_count, Ref.ofBits_quarter, ← EReal.coe_mul, ← EReal.coe_add]
  exact congrArg Real.toEReal (by ring)

end Cert.Proof.Spec

end
-- ==== Proof.RefRunValue.lean ====
/-
  The reference's run: the reconstruction of every sequence, and the loss of the two sums.
-/
module

public import proofs.«01_k».proof.Proof.RefAll
public import proofs.«01_k».proof.Proof.Sums

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo Idealize.SL.Sem
open Cert.Proof.Spec

variable {V : Valuation τ sig (Elt Ideal)} (hP : (wts V).Finite) (hX : ∀ b c t, IsReal (seqs V b c t))
include hP hX

/-- The first result as an array. -/
theorem recon_arr :
    after ops V (Proc.devRef .tc main_v155)
      = fun y : (⟨3, ![16, 64, 4096]⟩ : Shape).Idx => (wts V).recon (seqs V (y 0)) (y 1) (y 2) := by
  funext y
  have e : y = ix3 (y 0) (y 1) (y 2) := by funext a; match a with | 0 => rfl | 1 => rfl | 2 => rfl
  exact (congrArg _ e).trans (ref_recon hP hX (y 0) (y 1) (y 2))

/-- The second result as the kernel writes it. -/
theorem loss_arr :
    after ops V (Proc.devRef .tc main_v160)
      = fun _ : (⟨0, ![]⟩ : Shape).Idx =>
        Ideal.div (∑ b : Fin 16, (wts V).reconErr (seqs V b)) (Ideal.ofBits FTy.f32 1249902592#32) +
          Ideal.div (Ideal.ofBits FTy.f32 1067450368#32 * ∑ b : Fin 16, (wts V).quantErr (seqs V b)) (Ideal.ofBits FTy.f32 1233125376#32) := by
  funext y
  have e : y = ix0 := by funext a; exact a.elim0
  refine (congrArg _ e).trans ((ref_loss hP hX).trans ?_)
  rw [Finset.sum_congr rfl fun (b : Fin 16) _ => quantErr_eq (wts V) (seqs V b),
    Finset.sum_congr rfl fun (b : Fin 16) _ => reconErr_eq (wts V) (seqs V b),
    quarter_eq (s := ∑ b : Fin 16, (wts V).quantErr (seqs V b)) (.sum _ fun b _ => quantErr_real hP (hX b))]

end Cert.Proof.Ref

end
-- ==== Proof.Finite.lean ====
/-
  The precondition: an array whose elements' absolute values are all below infinity holds reals.
-/
module

public import proofs.«01_k».proof.Proof.Nearest
public import proofs.«01_k».proof.Proof.Arrays
public import proofs.«01_k».proof.Defs

@[expose] public section

noncomputable section

namespace Cert.Proof.Spec

open Idealize.ShloMosaic Idealize.ShloMosaic.TcCoe

theorem ofBits_infinity : Ideal.ofBits .f32 0x7F800000#32 = ⊤ := by
  simp [Ideal.ofBits, Ideal.ieee]

/-- An element that passes the printed test is real. -/
theorem real_of_test {s : Shape} {x : FVec Ideal s .f32} {h : (⟨0, ![]⟩ : Shape).BroadcastsInDim s ![]}
    (ht : cmpf .olt (Host.absf x) (broadcastInDim s ![] h (constant (F := Ideal) ⟨0, ![]⟩ .f32 0x7F800000#32)) = fun _ => 1#1)
    (i : s.Idx) : IsReal (x i) := by
  have h1 : Ideal.cmp .olt (max (x i) (-(x i))) (Ideal.ofBits .f32 0x7F800000#32) = 1#1 := congrFun ht i
  rw [ofBits_infinity] at h1
  have h2 : max (x i) (-(x i)) < (⊤ : EReal) := by
    by_contra hn
    simp [Ideal.cmp, hn] at h1
  generalize x i = a at h2
  induction a using EReal.rec with
  | bot => simp at h2
  | coe r => exact ⟨r, rfl⟩
  | top => simp at h2

theorem at3_real {a b c : ℕ} {x : Vec Ideal ⟨3, ![a, b, c]⟩ .f32} (h : ∀ i, IsReal (x i)) (i j k : ℕ) : IsReal (at3 x i j k) := by
  unfold at3
  split_ifs
  · exact h _
  · exact .zero

theorem at2_real {a b : ℕ} {x : Vec Ideal ⟨2, ![a, b]⟩ .f32} (h : ∀ i, IsReal (x i)) (i j : ℕ) : IsReal (at2 x i j) := by
  unfold at2
  split_ifs
  · exact h _
  · exact .zero

theorem at1_real {a : ℕ} {x : Vec Ideal ⟨1, ![a]⟩ .f32} (h : ∀ i, IsReal (x i)) (i : ℕ) : IsReal (at1 x i) := by
  unfold at1
  split_ifs
  · exact h _
  · exact .zero

end Cert.Proof.Spec

end
-- ==== Proof.Claims.lean ====
/-
  The kernel and the reference end with the same two results.
-/
module

public import proofs.«01_k».proof.Proof.KernelRun
public import proofs.«01_k».proof.Proof.RefRunValue
public import proofs.«01_k».proof.Proof.Finite
public import proofs.«01_k».proof.Proof.Gen.Pre_finite_inputs

@[expose] public section

set_option maxRecDepth 16384

noncomputable section

namespace Cert.Proof

open Idealize.ShloMosaic Idealize.ShloMosaic.TcCoe Idealize.SL.Sem
open Cert.Proof.Spec Cert.KernelIdeal

/-- The precondition makes the encoder's weights real. -/
theorem weights_finite {m : (ℓ : Loc nD τ sig) → Buf (Elt Ideal) ℓ} (h : Cert.Pre_KernelIdeal_finite_inputs m) (c : Dev nD) :
    (Batch.argWeights m c).Finite where
  w1 := at3_real (real_of_test (h c).2.1)
  b1 := at1_real (real_of_test (h c).2.2.1)
  w2 := at3_real (real_of_test (h c).2.2.2.1)
  b2 := at1_real (real_of_test (h c).2.2.2.2.1)
  cb := at2_real (real_of_test (h c).2.2.2.2.2)

/-- The precondition makes the input real. -/
theorem seqs_real {m : (ℓ : Loc nD τ sig) → Buf (Elt Ideal) ℓ} (h : Cert.Pre_KernelIdeal_finite_inputs m) (c : Dev nD) (i j k : ℕ) :
    IsReal (Batch.argSeqs m c i j k) :=
  at3_real (real_of_test (h c).1) i j k

/-- Equal arrays hold equal weights. -/
theorem weights_congr {a1 b1 : Vec Ideal ⟨3, ![128, 64, 4]⟩ .f32} {a2 b2 : Vec Ideal ⟨1, ![128]⟩ .f32} {a3 b3 : Vec Ideal ⟨3, ![64, 128, 4]⟩ .f32}
    {a4 b4 : Vec Ideal ⟨1, ![64]⟩ .f32} {a5 b5 : Vec Ideal ⟨2, ![512, 64]⟩ .f32} {a6 b6 : Vec Ideal ⟨3, ![64, 128, 4]⟩ .f32}
    {a7 b7 : Vec Ideal ⟨1, ![128]⟩ .f32} {a8 b8 : Vec Ideal ⟨3, ![128, 64, 4]⟩ .f32} {a9 b9 : Vec Ideal ⟨1, ![64]⟩ .f32}
    (h1 : a1 = b1) (h2 : a2 = b2) (h3 : a3 = b3) (h4 : a4 = b4) (h5 : a5 = b5) (h6 : a6 = b6) (h7 : a7 = b7) (h8 : a8 = b8)
    (h9 : a9 = b9) : weights a1 a2 a3 a4 a5 a6 a7 a8 a9 = weights b1 b2 b3 b4 b5 b6 b7 b8 b9 := by
  subst h1 h2 h3 h4 h5 h6 h7 h8 h9
  rfl

/-- On finite inputs the kernel's reconstruction and loss are the reference's. -/
theorem algebraic : Cert.algebraic_KernelIdeal_ReferenceIdeal_pre_finite_inputs := by
  intro m g m' g' hpre hagree
  refine ⟨_, _, Batch.run m g, ?_⟩
  refine (θ_run _ _ _).mono (fun r h c => ?_) (θ_run_and (Ref.run_main (F := Ideal) m' g') (Ref.frame (F := Ideal) m' g'))
  obtain ⟨h0, h1, h2, h3, h4, h5, h6, h7, h8, h9⟩ := hagree c
  have hw : Ref.wts (StableHlo.launchContents m' c) = Batch.argWeights m c := weights_congr h1 h2 h3 h4 h5 h6 h7 h8 h9
  have hs : Ref.seqs (StableHlo.launchContents m' c) = Batch.argSeqs m c :=
    congrArg (at3 : Vec Ideal ⟨3, ![16, 64, 4096]⟩ .f32 → ℕ → ℕ → ℕ → EReal) h0
  have hP : (Ref.wts (StableHlo.launchContents m' c)).Finite := hw ▸ weights_finite hpre c
  have hX : ∀ i j k, IsReal (Ref.seqs (StableHlo.launchContents m' c) i j k) := hs ▸ seqs_real hpre c
  have e0 := Ref.recon_arr hP hX
  have e1 := Ref.loss_arr hP hX
  rw [hw, hs] at e0 e1
  exact ⟨(h.1 c _).trans e0, (h.1 c _).trans e1, h.2.1 c⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_inputs
public import proofs.«01_k».proof.Proof.Claims
public import Idealize.ShloMosaic.Adequacy
public import Idealize.ShloMosaic.Init

@[expose] public section

noncomputable section

namespace Cert.Proof

open Idealize.ShloMosaic Idealize.SL.Sem Cert.Kernel

/-- The certificate: the three frames, the two frames under the precondition, the preservation of the kernel's code, and
    the equality of results on finite inputs. -/
theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ, fun m ρ _ => Cert.KernelIdeal.Gen.frame m ρ,
    fun m ρ _ => Cert.KernelIdeal.Gen.frame m ρ, fun m ρ _ => Cert.Proof.Ref.frame m ρ, fun m ρ _ => Cert.Proof.Ref.frame m ρ,
    trivial, Cert.Proof.algebraic⟩

end Cert.Proof

end
